-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "per_turn" .f32 0x3BA3D70A#32 ((200⁻¹ : ℝ) : EReal)
  ∧ IdealRules.named_const.Statement Cert.KernelIdeal.κ "per_still" .f32 0x3CA3D70A#32 ((50⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384 : Shape := ⟨1, ![16384]⟩
abbrev S16384x3 : Shape := ⟨2, ![16384, 3]⟩
abbrev S16384x4 : Shape := ⟨2, ![16384, 4]⟩
abbrev S16384x6 : Shape := ⟨2, ![16384, 6]⟩
abbrev S16384x5 : Shape := ⟨2, ![16384, 5]⟩
abbrev S16384x2 : Shape := ⟨2, ![16384, 2]⟩
abbrev S89x128 : Shape := ⟨2, ![89, 128]⟩
abbrev S128 : Shape := ⟨1, ![128]⟩
abbrev S128x128 : Shape := ⟨2, ![128, 128]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn_part1 {F : FTy → Type} [FloatOps F] (main_arg10 : IVec S16384x2 32) (main_v12 : IVec S_ 1) (main_v14 : IVec S16384x2 1) (main_v15 : IVec S16384x2 32) : IVec S_ 1 :=
  let main_v16 : IVec S16384x2 1 := cmpi .slt main_arg10 main_v15
  let main_v17 : IVec S16384x2 1 := andi main_v14 main_v16
  let main_c_7 : IVec S_ 1 := constantI S_ 1 1#1
  let main_v18 : IVec S_ 1 := (fun x v => Host.reduce IntOp.andi x v reducesTo_S16384x2_S_d0_1 h_S_) main_v17 main_c_7
  let main_v19 : IVec S_ 1 := andi main_v12 main_v18
  main_v19

def fn {F : FTy → Type} [FloatOps F] (main_arg0 : IVec S16384 32) (main_arg1 : IVec S16384 32) (main_arg2 : FVec F S16384x3 .f32) (main_arg3 : FVec F S16384x4 .f32) (main_arg4 : FVec F S16384x4 .f32) (main_arg5 : FVec F S16384x6 .f32) (main_arg6 : FVec F S16384x5 .f32) (main_arg7 : FVec F S16384x2 .f32) (main_arg8 : IVec S16384x2 32) (main_arg9 : IVec S16384x2 32) (main_arg10 : IVec S16384x2 32) (main_arg11 : FVec F S89x128 .f32) (main_arg12 : FVec F S128 .f32) (main_arg13 : FVec F S128x128 .f32) (main_arg14 : FVec F S128 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg8 main_v0
  let main_c_0 : IVec S_ 32 := constantI S_ 32 7#32
  let main_v2 : IVec S16384x2 32 := broadcastInDim S16384x2 ![] bcast_S_S16384x2 main_c_0
  let main_v3 : IVec S16384x2 1 := cmpi .slt main_arg8 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  let main_c_2 : IVec S_ 32 := constantI S_ 32 0#32
  let main_v6 : IVec S16384x2 32 := broadcastInDim S16384x2 ![] bcast_S_S16384x2 main_c_2
  let main_v7 : IVec S16384x2 1 := cmpi .sge main_arg9 main_v6
  let main_c_3 : IVec S_ 32 := constantI S_ 32 7#32
  let main_v8 : IVec S16384x2 32 := broadcastInDim S16384x2 ![] bcast_S_S16384x2 main_c_3
  let main_v9 : IVec S16384x2 1 := cmpi .slt main_arg9 main_v8
  let main_v10 : IVec S16384x2 1 := andi main_v7 main_v9
  let main_c_4 : IVec S_ 1 := constantI S_ 1 1#1
  let main_v11 : IVec S_ 1 := (fun x v => Host.reduce IntOp.andi x v reducesTo_S16384x2_S_d0_1 h_S_) main_v10 main_c_4
  let main_v12 : IVec S_ 1 := andi main_v5 main_v11
  let main_c_5 : IVec S_ 32 := constantI S_ 32 0#32
  let main_v13 : IVec S16384x2 32 := broadcastInDim S16384x2 ![] bcast_S_S16384x2 main_c_5
  let main_v14 : IVec S16384x2 1 := cmpi .sge main_arg10 main_v13
  let main_c_6 : IVec S_ 32 := constantI S_ 32 7#32
  let main_v15 : IVec S16384x2 32 := broadcastInDim S16384x2 ![] bcast_S_S16384x2 main_c_6
  fn_part1 (F := F) main_arg10 main_v12 main_v14 main_v15
-- ==== Kernel.lean ====
abbrev S16384 : Shape := ⟨1, ![16384]⟩
abbrev S16384x3 : Shape := ⟨2, ![16384, 3]⟩
abbrev S16384x4 : Shape := ⟨2, ![16384, 4]⟩
abbrev S16384x6 : Shape := ⟨2, ![16384, 6]⟩
abbrev S16384x5 : Shape := ⟨2, ![16384, 5]⟩
abbrev S16384x2 : Shape := ⟨2, ![16384, 2]⟩
abbrev S89x128 : Shape := ⟨2, ![89, 128]⟩
abbrev S128 : Shape := ⟨1, ![128]⟩
abbrev S128x128 : Shape := ⟨2, ![128, 128]⟩
abbrev S_ : Shape := ⟨0, ![]⟩
abbrev S96x128 : Shape := ⟨2, ![96, 128]⟩
abbrev S1 : Shape := ⟨1, ![1]⟩
abbrev S16384x1 : Shape := ⟨2, ![16384, 1]⟩
abbrev S1x128 : Shape := ⟨2, ![1, 128]⟩
abbrev S16384x128 : Shape := ⟨2, ![16384, 128]⟩
abbrev S1024x1 : Shape := ⟨2, ![1024, 1]⟩
abbrev S1024x3 : Shape := ⟨2, ![1024, 3]⟩
abbrev S1024x4 : Shape := ⟨2, ![1024, 4]⟩
abbrev S1024x6 : Shape := ⟨2, ![1024, 6]⟩
abbrev S1024x5 : Shape := ⟨2, ![1024, 5]⟩
abbrev S1024x2 : Shape := ⟨2, ![1024, 2]⟩
abbrev S1024x128 : Shape := ⟨2, ![1024, 128]⟩
abbrev S1024x15 : Shape := ⟨2, ![1024, 15]⟩
abbrev S1024x8 : Shape := ⟨2, ![1024, 8]⟩
abbrev S1024x7 : Shape := ⟨2, ![1024, 7]⟩
abbrev S1024x96 : Shape := ⟨2, ![1024, 96]⟩

abbrev nBuf : Space → Nat
  | .hbm => 25
  | .vmem => 26
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x3, .f32⟩
  | .hbm, ⟨3, _⟩ => ⟨S16384x4, .f32⟩
  | .hbm, ⟨4, _⟩ => ⟨S16384x4, .f32⟩
  | .hbm, ⟨5, _⟩ => ⟨S16384x6, .f32⟩
  | .hbm, ⟨6, _⟩ => ⟨S16384x5, .f32⟩
  | .hbm, ⟨7, _⟩ => ⟨S16384x2, .f32⟩
  | .hbm, ⟨8, _⟩ => ⟨S16384x2, .i32⟩
  | .hbm, ⟨9, _⟩ => ⟨S16384x2, .i32⟩
  | .hbm, ⟨10, _⟩ => ⟨S16384x2, .i32⟩
  | .hbm, ⟨11, _⟩ => ⟨S89x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .f32⟩
  | .hbm, ⟨16, _⟩ => ⟨S96x128, .f32⟩
  | .hbm, ⟨17, _⟩ => ⟨S_, .i32⟩
  | .hbm, ⟨18, _⟩ => ⟨S1, .i32⟩
  | .hbm, ⟨19, _⟩ => ⟨S96x128, .f32⟩
  | .hbm, ⟨20, _⟩ => ⟨S16384x1, .i32⟩
  | .hbm, ⟨21, _⟩ => ⟨S16384x1, .i32⟩
  | .hbm, ⟨22, _⟩ => ⟨S1x128, .f32⟩
  | .hbm, ⟨23, _⟩ => ⟨S1x128, .f32⟩
  | .hbm, ⟨24, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1024x1, .i32⟩
  | .local _ .vmem, ⟨3, _⟩ => ⟨S1024x1, .i32⟩
  | .local _ .vmem, ⟨4, _⟩ => ⟨S1024x3, .f32⟩
  | .local _ .vmem, ⟨5, _⟩ => ⟨S1024x3, .f32⟩
  | .local _ .vmem, ⟨6, _⟩ => ⟨S1024x4, .f32⟩
  | .local _ .vmem, ⟨7, _⟩ => ⟨S1024x4, .f32⟩
  | .local _ .vmem, ⟨8, _⟩ => ⟨S1024x4, .f32⟩
  | .local _ .vmem, ⟨9, _⟩ => ⟨S1024x4, .f32⟩
  | .local _ .vmem, ⟨10, _⟩ => ⟨S1024x6, .f32⟩
  | .local _ .vmem, ⟨11, _⟩ => ⟨S1024x6, .f32⟩
  | .local _ .vmem, ⟨12, _⟩ => ⟨S1024x5, .f32⟩
  | .local _ .vmem, ⟨13, _⟩ => ⟨S1024x5, .f32⟩
  | .local _ .vmem, ⟨14, _⟩ => ⟨S1024x2, .i32⟩
  | .local _ .vmem, ⟨15, _⟩ => ⟨S1024x2, .i32⟩
  | .local _ .vmem, ⟨16, _⟩ => ⟨S1024x2, .i32⟩
  | .local _ .vmem, ⟨17, _⟩ => ⟨S1024x2, .i32⟩
  | .local _ .vmem, ⟨18, _⟩ => ⟨S1024x2, .i32⟩
  | .local _ .vmem, ⟨19, _⟩ => ⟨S1024x2, .i32⟩
  | .local _ .vmem, ⟨20, _⟩ => ⟨S96x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1024x128, .f32⟩
  | .local _ .vmem, ⟨25, _⟩ => ⟨S1024x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S96x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "per_still" => some ((50⁻¹ : ℝ) : EReal)
  | "per_turn" => some ((200⁻¹ : ℝ) : EReal)
  | _ => none
-- ==== ReferenceIdeal.lean ====
abbrev S16384 : Shape := ⟨1, ![16384]⟩
abbrev S16384x3 : Shape := ⟨2, ![16384, 3]⟩
abbrev S16384x4 : Shape := ⟨2, ![16384, 4]⟩
abbrev S16384x6 : Shape := ⟨2, ![16384, 6]⟩
abbrev S16384x5 : Shape := ⟨2, ![16384, 5]⟩
abbrev S16384x2 : Shape := ⟨2, ![16384, 2]⟩
abbrev S89x128 : Shape := ⟨2, ![89, 128]⟩
abbrev S128 : Shape := ⟨1, ![128]⟩
abbrev S128x128 : Shape := ⟨2, ![128, 128]⟩
abbrev S202x15 : Shape := ⟨2, ![202, 15]⟩
abbrev S53x8 : Shape := ⟨2, ![53, 8]⟩
abbrev S7x7 : Shape := ⟨2, ![7, 7]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x15 : Shape := ⟨2, ![16384, 15]⟩
abbrev S16384x8 : Shape := ⟨2, ![16384, 8]⟩
abbrev S16384x2x1 : Shape := ⟨3, ![16384, 2, 1]⟩
abbrev S1x1x1 : Shape := ⟨3, ![1, 1, 1]⟩
abbrev S16384x2x7 : Shape := ⟨3, ![16384, 2, 7]⟩
abbrev S16384x14 : Shape := ⟨2, ![16384, 14]⟩
abbrev S16384x89 : Shape := ⟨2, ![16384, 89]⟩
abbrev S16384x128 : Shape := ⟨2, ![16384, 128]⟩
abbrev S1x128 : Shape := ⟨2, ![1, 128]⟩

abbrev nBuf : Space → Nat
  | .hbm => 182
  | .vmem => 0
  | .smem => 0
  | _ => 0

abbrev hbmTy0_0 (i : Nat) : BufTy := match i % 128 with
  | 0 => ⟨S16384, .i32⟩
  | 1 => ⟨S16384, .i32⟩
  | 2 => ⟨S16384x3, .f32⟩
  | 3 => ⟨S16384x4, .f32⟩
  | 4 => ⟨S16384x4, .f32⟩
  | 5 => ⟨S16384x6, .f32⟩
  | 6 => ⟨S16384x5, .f32⟩
  | 7 => ⟨S16384x2, .f32⟩
  | 8 => ⟨S16384x2, .i32⟩
  | 9 => ⟨S16384x2, .i32⟩
  | 10 => ⟨S16384x2, .i32⟩
  | 11 => ⟨S89x128, .f32⟩
  | 12 => ⟨S128, .f32⟩
  | 13 => ⟨S128x128, .f32⟩
  | 14 => ⟨S128, .f32⟩
  | 15 => ⟨S202x15, .f32⟩
  | 16 => ⟨S53x8, .f32⟩
  | 17 => ⟨S7x7, .i32⟩
  | 18 => ⟨S7x7, .i32⟩
  | 19 => ⟨S_, .i32⟩
  | 20 => ⟨S7x7, .i32⟩
  | 21 => ⟨S7x7, .i32⟩
  | 22 => ⟨S7x7, .i1⟩
  | 23 => ⟨S7x7, .f32⟩
  | 24 => ⟨S_, .i32⟩
  | 25 => ⟨S_, .i32⟩
  | 26 => ⟨S_, .i32⟩
  | 27 => ⟨S16384, .i32⟩
  | 28 => ⟨S16384, .i32⟩
  | 29 => ⟨S_, .i32⟩
  | 30 => ⟨S16384, .i32⟩
  | 31 => ⟨S16384, .i32⟩
  | 32 => ⟨S_, .i32⟩
  | 33 => ⟨S_, .i32⟩
  | 34 => ⟨S_, .i32⟩
  | 35 => ⟨S16384, .i32⟩
  | 36 => ⟨S16384, .i32⟩
  | 37 => ⟨S_, .i32⟩
  | 38 => ⟨S16384, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x15, .f32⟩
  | 59 => ⟨S16384x15, .i1⟩
  | 60 => ⟨S_, .f32⟩
  | 61 => ⟨S16384x15, .f32⟩
  | 62 => ⟨S16384x15, .f32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384x8, .f32⟩
  | 82 => ⟨S16384x8, .i1⟩
  | 83 => ⟨S_, .f32⟩
  | 84 => ⟨S16384x8, .f32⟩
  | 85 => ⟨S16384x8, .f32⟩
  | 86 => ⟨S16384, .f32⟩
  | 87 => ⟨S_, .f32⟩
  | 88 => ⟨S16384, .f32⟩
  | 89 => ⟨S16384, .f32⟩
  | 90 => ⟨S16384x1, .f32⟩
  | 91 => ⟨S16384x1, .f32⟩
  | 92 => ⟨S16384, .f32⟩
  | 93 => ⟨S_, .f32⟩
  | 94 => ⟨S16384, .f32⟩
  | 95 => ⟨S16384, .f32⟩
  | 96 => ⟨S16384x1, .f32⟩
  | 97 => ⟨S16384x1, .f32⟩
  | 98 => ⟨S_, .i32⟩
  | 99 => ⟨S16384x2, .i32⟩
  | 100 => ⟨S16384x2, .i1⟩
  | 101 => ⟨S_, .i32⟩
  | 102 => ⟨S16384x2, .i32⟩
  | 103 => ⟨S16384x2, .i32⟩
  | 104 => ⟨S16384x2, .i32⟩
  | 105 => ⟨S16384x2x1, .i32⟩
  | 106 => ⟨S1, .i32⟩
  | 107 => ⟨S_, .i32⟩
  | 108 => ⟨S16384x2x1, .i32⟩
  | 109 => ⟨S16384x2x1, .i1⟩
  | 110 => ⟨S1x1x1, .i32⟩
  | 111 => ⟨S16384x2x1, .i32⟩
  | 112 => ⟨S16384x2x1, .i1⟩
  | 113 => ⟨S16384x2x1, .i1⟩
  | 114 => ⟨S_, .i1⟩
  | 115 => ⟨S16384x2, .i1⟩
  | 116 => ⟨S16384x2x7, .f32⟩
  | 117 => ⟨S16384x2x7, .i1⟩
  | 118 => ⟨S_, .f32⟩
  | 119 => ⟨S16384x2x7, .f32⟩
  | 120 => ⟨S16384x2x7, .f32⟩
  | 121 => ⟨S16384x14, .f32⟩
  | 122 => ⟨S_, .i32⟩
  | 123 => ⟨S16384x2, .i32⟩
  | 124 => ⟨S16384x2, .i1⟩
  | 125 => ⟨S_, .i32⟩
  | 126 => ⟨S16384x2, .i32⟩
  | 127 => ⟨S16384x2, .i32⟩
  | _ => ⟨S16384, .i32⟩

abbrev hbmTy0_1 (i : Nat) : BufTy := match i % 128 with
  | 0 => ⟨S16384x2, .i32⟩
  | 1 => ⟨S16384x2x1, .i32⟩
  | 2 => ⟨S1, .i32⟩
  | 3 => ⟨S_, .i32⟩
  | 4 => ⟨S16384x2x1, .i32⟩
  | 5 => ⟨S16384x2x1, .i1⟩
  | 6 => ⟨S1x1x1, .i32⟩
  | 7 => ⟨S16384x2x1, .i32⟩
  | 8 => ⟨S16384x2x1, .i1⟩
  | 9 => ⟨S16384x2x1, .i1⟩
  | 10 => ⟨S_, .i1⟩
  | 11 => ⟨S16384x2, .i1⟩
  | 12 => ⟨S16384x2x7, .f32⟩
  | 13 => ⟨S16384x2x7, .i1⟩
  | 14 => ⟨S_, .f32⟩
  | 15 => ⟨S16384x2x7, .f32⟩
  | 16 => ⟨S16384x2x7, .f32⟩
  | 17 => ⟨S16384x14, .f32⟩
  | 18 => ⟨S_, .i32⟩
  | 19 => ⟨S16384x2, .i32⟩
  | 20 => ⟨S16384x2, .i1⟩
  | 21 => ⟨S_, .i32⟩
  | 22 => ⟨S16384x2, .i32⟩
  | 23 => ⟨S16384x2, .i32⟩
  | 24 => ⟨S16384x2, .i32⟩
  | 25 => ⟨S16384x2x1, .i32⟩
  | 26 => ⟨S1, .i32⟩
  | 27 => ⟨S_, .i32⟩
  | 28 => ⟨S16384x2x1, .i32⟩
  | 29 => ⟨S16384x2x1, .i1⟩
  | 30 => ⟨S1x1x1, .i32⟩
  | 31 => ⟨S16384x2x1, .i32⟩
  | 32 => ⟨S16384x2x1, .i1⟩
  | 33 => ⟨S16384x2x1, .i1⟩
  | 34 => ⟨S_, .i1⟩
  | 35 => ⟨S16384x2, .i1⟩
  | 36 => ⟨S16384x2x7, .f32⟩
  | 37 => ⟨S16384x2x7, .i1⟩
  | 38 => ⟨S_, .f32⟩
  | 39 => ⟨S16384x2x7, .f32⟩
  | 40 => ⟨S16384x2x7, .f32⟩
  | 41 => ⟨S16384x14, .f32⟩
  | 42 => ⟨S16384x89, .f32⟩
  | 43 => ⟨S16384x128, .f32⟩
  | 44 => ⟨S1x128, .f32⟩
  | 45 => ⟨S16384x128, .f32⟩
  | 46 => ⟨S16384x128, .f32⟩
  | 47 => ⟨S_, .f32⟩
  | 48 => ⟨S16384x128, .f32⟩
  | 49 => ⟨S16384x128, .f32⟩
  | 50 => ⟨S16384x128, .f32⟩
  | 51 => ⟨S1x128, .f32⟩
  | 52 => ⟨S16384x128, .f32⟩
  | 53 => ⟨S16384x128, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_c_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v6 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v7 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v8 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v9 : Ref sig .tc := ⟨.hbm, 85, rfl⟩
abbrev main_v10 : Ref sig .tc := ⟨.hbm, 86, rfl⟩
abbrev main_cst_5 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_cst_6 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_call4_cst : Ref sig .tc := ⟨.hbm, 118, rfl⟩
abbrev main_call4_v15 : Ref sig .tc := ⟨.hbm, 119, rfl⟩
abbrev main_v20 : Ref sig .tc := ⟨.hbm, 120, rfl⟩
abbrev main_v21 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_call5_cst : Ref sig .tc := ⟨.hbm, 142, rfl⟩
abbrev main_call5_v15 : Ref sig .tc := ⟨.hbm, 143, rfl⟩
abbrev main_v22 : Ref sig .tc := ⟨.hbm, 144, rfl⟩
abbrev main_v23 : Ref sig .tc := ⟨.hbm, 145, rfl⟩
abbrev main_call6_c : Ref sig .tc := ⟨.hbm, 146, rfl⟩
abbrev main_call6_v0 : Ref sig .tc := ⟨.hbm, 147, rfl⟩
abbrev main_call6_v1 : Ref sig .tc := ⟨.hbm, 148, rfl⟩
abbrev main_call6_c_0 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_c_1 : Ref sig .tc := ⟨.hbm, 154, rfl⟩
abbrev main_call6_c_2 : Ref sig .tc := ⟨.hbm, 155, rfl⟩
abbrev main_call6_v6 : Ref sig .tc := ⟨.hbm, 156, rfl⟩
abbrev main_call6_v7 : Ref sig .tc := ⟨.hbm, 157, rfl⟩
abbrev main_call6_v8 : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_call6_c_3 : Ref sig .tc := ⟨.hbm, 162, rfl⟩
abbrev main_call6_v12 : Ref sig .tc := ⟨.hbm, 163, rfl⟩
abbrev main_call6_v13 : Ref sig .tc := ⟨.hbm, 164, rfl⟩
abbrev main_call6_v14 : Ref sig .tc := ⟨.hbm, 165, rfl⟩
abbrev main_call6_cst : Ref sig .tc := ⟨.hbm, 166, rfl⟩
abbrev main_call6_v15 : Ref sig .tc := ⟨.hbm, 167, rfl⟩
abbrev main_v24 : Ref sig .tc := ⟨.hbm, 168, rfl⟩
abbrev main_v25 : Ref sig .tc := ⟨.hbm, 169, rfl⟩
abbrev main_v26 : Ref sig .tc := ⟨.hbm, 170, rfl⟩
abbrev main_v27 : Ref sig .tc := ⟨.hbm, 171, rfl⟩
abbrev main_v28 : Ref sig .tc := ⟨.hbm, 172, rfl⟩
abbrev main_v29 : Ref sig .tc := ⟨.hbm, 173, rfl⟩
abbrev main_v30 : Ref sig .tc := ⟨.hbm, 174, rfl⟩
abbrev main_call7_cst : Ref sig .tc := ⟨.hbm, 175, rfl⟩
abbrev main_call7_v0 : Ref sig .tc := ⟨.hbm, 176, rfl⟩
abbrev main_v31 : Ref sig .tc := ⟨.hbm, 177, rfl⟩
abbrev main_v32 : Ref sig .tc := ⟨.hbm, 178, rfl⟩
abbrev main_v33 : Ref sig .tc := ⟨.hbm, 179, rfl⟩
abbrev main_v34 : Ref sig .tc := ⟨.hbm, 180, rfl⟩
abbrev main_v35 : Ref sig .tc := ⟨.hbm, 181, rfl⟩

abbrev nD : Nat := 1
abbrev τ : Topo := Topo.v7x

variable {F : FTy → Type} [FloatOps F]
-- ==== Proof.Spec.lean ====
/-
  The mathematics both programs are compared with: one row's 89 features, and the two-layer encoder applied to them.
-/
module

public import Idealize.ShloMosaic.Lib.Pointwise

@[expose] public section

set_option maxRecDepth 16384

noncomputable section

namespace Cert.Proof.Spec

open Idealize.ShloMosaic

/-- `1` where two words agree, `0` elsewhere. -/
def hot (a b : BitVec 32) : EReal := if a = b then 1 else 0

/-- A word clipped, as a signed number, to `0 … hi`. -/
def clip (hi x : BitVec 32) : BitVec 32 := IntOp.minsi hi (IntOp.maxsi 0#32 x)

/-- The integer square root of a word. -/
def root (x : BitVec 32) : BitVec 32 := BitVec.ofNat 32 (Nat.sqrt x.toNat)

/-- A word, as a signed number, divided by `k`. -/
def share (k : ℕ) (x : BitVec 32) : EReal := (((x.toInt : ℝ) * (k : ℝ)⁻¹ : ℝ) : EReal)

/-- The 89 columns of a row, laid side by side: 15, 8, 1, 1, 3, 4, 6, 5, six times 7, and 4 columns. -/
def row (a : Fin 15 → EReal) (b : Fin 8 → EReal) (c d : EReal) (e : Fin 3 → EReal) (f : Fin 4 → EReal)
    (g : Fin 6 → EReal) (h : Fin 5 → EReal) (o₁ o₂ o₃ o₄ o₅ o₆ : Fin 7 → EReal) (z : Fin 4 → EReal) (j : Fin 89) : EReal :=
  if h₀ : j.val < 15 then a ⟨j.val, h₀⟩
  else if h₁ : j.val < 23 then b ⟨j.val - 15, by omega⟩
  else if j.val < 24 then c
  else if j.val < 25 then d
  else if h₄ : j.val < 28 then e ⟨j.val - 25, by omega⟩
  else if h₅ : j.val < 32 then f ⟨j.val - 28, by omega⟩
  else if h₆ : j.val < 38 then g ⟨j.val - 32, by omega⟩
  else if h₇ : j.val < 43 then h ⟨j.val - 38, by omega⟩
  else if h₈ : j.val < 50 then o₁ ⟨j.val - 43, by omega⟩
  else if h₉ : j.val < 57 then o₂ ⟨j.val - 50, by omega⟩
  else if h₁₀ : j.val < 64 then o₃ ⟨j.val - 57, by omega⟩
  else if h₁₁ : j.val < 71 then o₄ ⟨j.val - 64, by omega⟩
  else if h₁₂ : j.val < 78 then o₅ ⟨j.val - 71, by omega⟩
  else if h₁₃ : j.val < 85 then o₆ ⟨j.val - 78, by omega⟩
  else z ⟨j.val - 85, by omega⟩

/-- A row of 89 values whose columns are, range by range, those of the given parts is the parts laid side by side. -/
theorem eq_row {a : Fin 15 → EReal} {b : Fin 8 → EReal} {c d : EReal} {e : Fin 3 → EReal} {f : Fin 4 → EReal}
    {g : Fin 6 → EReal} {h : Fin 5 → EReal} {o₁ o₂ o₃ o₄ o₅ o₆ : Fin 7 → EReal} {z : Fin 4 → EReal} (x : Fin 89 → EReal)
    (k0 : ∀ i : Fin 15, x ⟨0 + i.val, by omega⟩ = a i)
    (k1 : ∀ i : Fin 8, x ⟨15 + i.val, by omega⟩ = b i)
    (k2 : x ⟨23, by omega⟩ = c)
    (k3 : x ⟨24, by omega⟩ = d)
    (k4 : ∀ i : Fin 3, x ⟨25 + i.val, by omega⟩ = e i)
    (k5 : ∀ i : Fin 4, x ⟨28 + i.val, by omega⟩ = f i)
    (k6 : ∀ i : Fin 6, x ⟨32 + i.val, by omega⟩ = g i)
    (k7 : ∀ i : Fin 5, x ⟨38 + i.val, by omega⟩ = h i)
    (k8 : ∀ i : Fin 7, x ⟨43 + i.val, by omega⟩ = o₁ i)
    (k9 : ∀ i : Fin 7, x ⟨50 + i.val, by omega⟩ = o₂ i)
    (k10 : ∀ i : Fin 7, x ⟨57 + i.val, by omega⟩ = o₃ i)
    (k11 : ∀ i : Fin 7, x ⟨64 + i.val, by omega⟩ = o₄ i)
    (k12 : ∀ i : Fin 7, x ⟨71 + i.val, by omega⟩ = o₅ i)
    (k13 : ∀ i : Fin 7, x ⟨78 + i.val, by omega⟩ = o₆ i)
    (k14 : ∀ i : Fin 4, x ⟨85 + i.val, by omega⟩ = z i)
    (j : Fin 89) : x j = row a b c d e f g h o₁ o₂ o₃ o₄ o₅ o₆ z j := by
  unfold row
  by_cases h0 : j.val < 15
  · rw [dif_pos h0, ← k0]; exact congrArg x (Fin.ext (by dsimp only; omega))
  rw [dif_neg h0]
  by_cases h1 : j.val < 23
  · rw [dif_pos h1, ← k1]; exact congrArg x (Fin.ext (by dsimp only; omega))
  rw [dif_neg h1]
  by_cases h2 : j.val < 24
  · rw [if_pos h2, ← k2]; exact congrArg x (Fin.ext (by dsimp only; omega))
  rw [if_neg h2]
  by_cases h3 : j.val < 25
  · rw [if_pos h3, ← k3]; exact congrArg x (Fin.ext (by dsimp only; omega))
  rw [if_neg h3]
  by_cases h4 : j.val < 28
  · rw [dif_pos h4, ← k4]; exact congrArg x (Fin.ext (by dsimp only; omega))
  rw [dif_neg h4]
  by_cases h5 : j.val < 32
  · rw [dif_pos h5, ← k5]; exact congrArg x (Fin.ext (by dsimp only; omega))
  rw [dif_neg h5]
  by_cases h6 : j.val < 38
  · rw [dif_pos h6, ← k6]; exact congrArg x (Fin.ext (by dsimp only; omega))
  rw [dif_neg h6]
  by_cases h7 : j.val < 43
  · rw [dif_pos h7, ← k7]; exact congrArg x (Fin.ext (by dsimp only; omega))
  rw [dif_neg h7]
  by_cases h8 : j.val < 50
  · rw [dif_pos h8, ← k8]; exact congrArg x (Fin.ext (by dsimp only; omega))
  rw [dif_neg h8]
  by_cases h9 : j.val < 57
  · rw [dif_pos h9, ← k9]; exact congrArg x (Fin.ext (by dsimp only; omega))
  rw [dif_neg h9]
  by_cases h10 : j.val < 64
  · rw [dif_pos h10, ← k10]; exact congrArg x (Fin.ext (by dsimp only; omega))
  rw [dif_neg h10]
  by_cases h11 : j.val < 71
  · rw [dif_pos h11, ← k11]; exact congrArg x (Fin.ext (by dsimp only; omega))
  rw [dif_neg h11]
  by_cases h12 : j.val < 78
  · rw [dif_pos h12, ← k12]; exact congrArg x (Fin.ext (by dsimp only; omega))
  rw [dif_neg h12]
  by_cases h13 : j.val < 85
  · rw [dif_pos h13, ← k13]; exact congrArg x (Fin.ext (by dsimp only; omega))
  rw [dif_neg h13]
  rw [← k14]; exact congrArg x (Fin.ext (by dsimp only; omega))

/-- One row's features: the one-hot integer square roots of the two clipped turn counts, the counts as shares of 200 and of
    50, the four groups of given features, the one-hot rows of the six small counts, and the last given group. -/
def feature (turn still : BitVec 32) (act : Fin 3 → EReal) (mv : Fin 4 → EReal) (sw : Fin 6 → EReal) (fl : Fin 5 → EReal)
    (n tp fc : Fin 2 → BitVec 32) (mx : Fin 4 → EReal) : Fin 89 → EReal :=
  row (fun i => hot (root (clip 200#32 turn)) (BitVec.ofNat 32 i.val))
    (fun i => hot (root (clip 50#32 still)) (BitVec.ofNat 32 i.val))
    (share 200 (clip 200#32 turn)) (share 50 (clip 50#32 still)) act mv sw fl
    (fun i => hot (n 0) (BitVec.ofNat 32 i.val)) (fun i => hot (n 1) (BitVec.ofNat 32 i.val))
    (fun i => hot (tp 0) (BitVec.ofNat 32 i.val)) (fun i => hot (tp 1) (BitVec.ofNat 32 i.val))
    (fun i => hot (fc 0) (BitVec.ofNat 32 i.val)) (fun i => hot (fc 1) (BitVec.ofNat 32 i.val)) mx

/-- The encoder at output column `d`: a linear layer, the larger of its value and zero, and a second linear layer. -/
def encode (x : Fin 89 → EReal) (W₁ : Fin 89 → Fin 128 → EReal) (b₁ : Fin 128 → EReal) (W₂ : Fin 128 → Fin 128 → EReal)
    (b₂ : Fin 128 → EReal) (d : Fin 128) : EReal :=
  (∑ k : Fin 128, max ((∑ j : Fin 89, x j * W₁ j k) + b₁ k) 0 * W₂ k d) + b₂ d

/-- The whole result from the argument arrays: row `r` is the encoder of row `r`'s features. -/
def whole (turn still : (⟨1, ![16384]⟩ : Shape).Idx → BitVec 32) (act : (⟨2, ![16384, 3]⟩ : Shape).Idx → EReal)
    (mv mx : (⟨2, ![16384, 4]⟩ : Shape).Idx → EReal) (sw : (⟨2, ![16384, 6]⟩ : Shape).Idx → EReal)
    (fl : (⟨2, ![16384, 5]⟩ : Shape).Idx → EReal) (n tp fc : (⟨2, ![16384, 2]⟩ : Shape).Idx → BitVec 32)
    (W₁ : (⟨2, ![89, 128]⟩ : Shape).Idx → EReal) (b₁ : (⟨1, ![128]⟩ : Shape).Idx → EReal)
    (W₂ : (⟨2, ![128, 128]⟩ : Shape).Idx → EReal) (b₂ : (⟨1, ![128]⟩ : Shape).Idx → EReal) (r : Fin 16384) (d : Fin 128) : EReal :=
  encode (feature (turn (ix1 r)) (still (ix1 r)) (fun i => act (ix2 r i)) (fun i => mv (ix2 r i)) (fun i => sw (ix2 r i))
      (fun i => fl (ix2 r i)) (fun i => n (ix2 r i)) (fun i => tp (ix2 r i)) (fun i => fc (ix2 r i)) (fun i => mx (ix2 r i)))
    (fun j k => W₁ (ix2 j k)) (fun k => b₁ (ix1 k)) (fun k l => W₂ (ix2 k l)) (fun k => b₂ (ix1 k)) d

/-- A clipped word lies between `0` and the bound, for a bound that is not negative. -/
theorem clip_bounds (hi x : BitVec 32) (h : 0 ≤ hi.toInt) : 0 ≤ (clip hi x).toInt ∧ (clip hi x).toInt ≤ hi.toInt := by
  unfold clip IntOp.minsi IntOp.maxsi
  simp only [BitVec.slt, decide_eq_true_eq, BitVec.toInt_zero]
  split_ifs <;> simp_all <;> omega

/-- The natural number a clipped word holds is at most the bound. -/
theorem clip_toNat (hi x : BitVec 32) (h : 0 ≤ hi.toInt) :
    (clip hi x).toNat ≤ hi.toNat ∧ (clip hi x).toInt = ((clip hi x).toNat : Int) := by
  obtain ⟨h₀, h₁⟩ := clip_bounds hi x h
  have := BitVec.toInt_eq_toNat_cond (clip hi x)
  have := BitVec.toInt_eq_toNat_cond hi
  have := (clip hi x).isLt
  have := hi.isLt
  constructor <;> split_ifs at * <;> omega

/-- The float square root of a natural number, rounded down and turned into a word, is its integer square root. -/
theorem fptosi_floor_sqrt (x : BitVec 32) (hx : x.toNat ≤ 200) (hi : x.toInt = (x.toNat : Int)) :
    Ideal.fptosi 32 (Ideal.liftRound Int.floor (Ideal.sqrt ((x.toInt : ℝ) : EReal))) = root x := by
  have hs : Nat.sqrt x.toNat ≤ 200 := (Nat.sqrt_le_self _).trans hx
  rw [hi]
  simp only [Int.cast_natCast, Ideal.sqrt_coe]
  rw [if_neg (not_lt.mpr (Nat.cast_nonneg _))]
  show BitVec.ofInt 32 (Ideal.toIntClamped _ _ (((⌊Real.sqrt (x.toNat : ℝ)⌋ : ℤ) : ℝ) : EReal)) = _
  rw [Real.floor_real_sqrt_eq_nat_sqrt]
  show BitVec.ofInt 32 (max _ (min _ (if (0:ℝ) ≤ (((Nat.sqrt x.toNat : ℕ) : ℤ) : ℝ) then ⌊(((Nat.sqrt x.toNat : ℕ) : ℤ) : ℝ)⌋ else _))) = _
  rw [if_pos (by exact_mod_cast Nat.zero_le _), Int.floor_intCast]
  rw [min_eq_right (by omega), max_eq_right (by omega)]
  rfl

end Cert.Proof.Spec

end
-- ==== Proof.Cat.lean ====
/-
  Reading an array that was joined from pieces along its columns.
-/
module

public import Idealize.ShloMosaic.Lib.Pointwise
public import Idealize.ShloMosaic.Lib.Pipeline.Value

@[expose] public section

set_option maxRecDepth 16384

noncomputable section

namespace Cert.Proof.Cat

open Idealize.ShloMosaic

/-- Row `r` of a column-wise joined array: at column `j = pre + i` it is row `r`, column `i` of piece `k`, where `pre` is the
    number of columns before that piece. -/
theorem cat_at {α : Type} {N W w : ℕ} (xs : List ((s : Shape) × (s.Idx → α)))
    (h : Shape.Concatenates (xs.map (·.1)) ⟨2, ![N, W]⟩ 1) (r : Fin N) (j : Fin W) (k : ℕ) (hk : k < xs.length)
    (x : (⟨2, ![N, w]⟩ : Shape).Idx → α) (hx : xs[k] = ⟨⟨2, ![N, w]⟩, x⟩) (pre : ℕ)
    (hpre : (((xs.take k).map (·.1)).map fun s : Shape => if h : s.rank = 2 then s.size ((1 : Fin 2).cast h.symm) else 0).sum = pre)
    (i : Fin w) (hj : pre + i.val = j.val) :
    concatenate ⟨2, ![N, W]⟩ 1 xs h (ix2 r j) = x (ix2 r i) :=
  concatenate_apply_piece 1 xs h (ix2 r j) k hk _ x hx rfl pre hpre (ix2 r i)
    (fun b hb => by
      match b with
      | ⟨0, _⟩ => rfl
      | ⟨1, _⟩ => exact absurd rfl hb) hj

end Cert.Proof.Cat

end
-- ==== Proof.Joined.lean ====
/-
  The padded feature block, joined from its sixteen pieces, read at a row and a column.
-/
module

public import proofs.«01_k».proof.Proof.Gen.KernelIdeal.Frame
public import proofs.«01_k».proof.Proof.Spec
public import proofs.«01_k».proof.Proof.Cat

@[expose] public section

set_option maxRecDepth 16384

noncomputable section

namespace Cert.Proof.Joined

open Idealize.ShloMosaic Cert.KernelIdeal Cert.KernelIdeal.Gen Cert.Proof.Spec

section Rows
variable (v24 : FVec Ideal S1024x15 .f32) (v29 : FVec Ideal S1024x8 .f32) (v31 : FVec Ideal S1024x1 .f32) (v33 : FVec Ideal S1024x1 .f32)
  (v34 : Vec Ideal S1024x3 .f32) (v35 : Vec Ideal S1024x4 .f32) (v36 : Vec Ideal S1024x6 .f32) (v37 : Vec Ideal S1024x5 .f32)
  (v43 v49 v55 v61 v67 v73 : FVec Ideal S1024x7 .f32) (v74 : Vec Ideal S1024x4 .f32) (v75 : FVec Ideal S1024x7 .f32)

/-- The sixteen pieces of the padded feature block. -/
abbrev pieces : List ((s : Shape) × FVec Ideal s .f32) :=
  [⟨S1024x15, v24⟩, ⟨S1024x8, v29⟩, ⟨S1024x1, v31⟩, ⟨S1024x1, v33⟩, ⟨S1024x3, v34⟩, ⟨S1024x4, v35⟩, ⟨S1024x6, v36⟩, ⟨S1024x5, v37⟩, ⟨S1024x7, v43⟩, ⟨S1024x7, v49⟩, ⟨S1024x7, v55⟩, ⟨S1024x7, v61⟩, ⟨S1024x7, v67⟩, ⟨S1024x7, v73⟩, ⟨S1024x4, v74⟩, ⟨S1024x7, v75⟩]

/-- The pieces joined along the columns. -/
def joined : FVec Ideal S1024x96 .f32 :=
  concatenate S1024x96 1 (pieces v24 v29 v31 v33 v34 v35 v36 v37 v43 v49 v55 v61 v67 v73 v74 v75) concatenates_S1024x15_S1024x8_S1024x1_S1024x1_S1024x3_S1024x4_S1024x6_S1024x5_S1024x7_S1024x7_S1024x7_S1024x7_S1024x7_S1024x7_S1024x4_S1024x7_S1024x96_d1

set_option maxHeartbeats 1000000 in
/-- The first 89 columns of the joined block are the pieces laid side by side. -/
theorem joined_at (r : Fin 1024) (j : Fin 89) :
    joined v24 v29 v31 v33 v34 v35 v36 v37 v43 v49 v55 v61 v67 v73 v74 v75 (ix2 r ⟨j.val, by omega⟩)
      = row (fun i => v24 (ix2 r i)) (fun i => v29 (ix2 r i)) (v31 (ix2 r 0)) (v33 (ix2 r 0)) (fun i => v34 (ix2 r i))
          (fun i => v35 (ix2 r i)) (fun i => v36 (ix2 r i)) (fun i => v37 (ix2 r i)) (fun i => v43 (ix2 r i))
          (fun i => v49 (ix2 r i)) (fun i => v55 (ix2 r i)) (fun i => v61 (ix2 r i)) (fun i => v67 (ix2 r i))
          (fun i => v73 (ix2 r i)) (fun i => v74 (ix2 r i)) j := by
  refine eq_row (fun j => joined v24 v29 v31 v33 v34 v35 v36 v37 v43 v49 v55 v61 v67 v73 v74 v75 (ix2 r ⟨j.val, by omega⟩))
    (fun i => Cat.cat_at (pieces v24 v29 v31 v33 v34 v35 v36 v37 v43 v49 v55 v61 v67 v73 v74 v75) _ r _ 0 (show 0 < 16 by decide) v24 rfl 0 (by simp) i rfl)
    (fun i => Cat.cat_at (pieces v24 v29 v31 v33 v34 v35 v36 v37 v43 v49 v55 v61 v67 v73 v74 v75) _ r _ 1 (show 1 < 16 by decide) v29 rfl 15 (by simp) i rfl)
    (Cat.cat_at (pieces v24 v29 v31 v33 v34 v35 v36 v37 v43 v49 v55 v61 v67 v73 v74 v75) _ r _ 2 (show 2 < 16 by decide) v31 rfl 23 (by simp) 0 rfl)
    (Cat.cat_at (pieces v24 v29 v31 v33 v34 v35 v36 v37 v43 v49 v55 v61 v67 v73 v74 v75) _ r _ 3 (show 3 < 16 by decide) v33 rfl 24 (by simp) 0 rfl)
    (fun i => Cat.cat_at (pieces v24 v29 v31 v33 v34 v35 v36 v37 v43 v49 v55 v61 v67 v73 v74 v75) _ r _ 4 (show 4 < 16 by decide) v34 rfl 25 (by simp) i rfl)
    (fun i => Cat.cat_at (pieces v24 v29 v31 v33 v34 v35 v36 v37 v43 v49 v55 v61 v67 v73 v74 v75) _ r _ 5 (show 5 < 16 by decide) v35 rfl 28 (by simp) i rfl)
    (fun i => Cat.cat_at (pieces v24 v29 v31 v33 v34 v35 v36 v37 v43 v49 v55 v61 v67 v73 v74 v75) _ r _ 6 (show 6 < 16 by decide) v36 rfl 32 (by simp) i rfl)
    (fun i => Cat.cat_at (pieces v24 v29 v31 v33 v34 v35 v36 v37 v43 v49 v55 v61 v67 v73 v74 v75) _ r _ 7 (show 7 < 16 by decide) v37 rfl 38 (by simp) i rfl)
    (fun i => Cat.cat_at (pieces v24 v29 v31 v33 v34 v35 v36 v37 v43 v49 v55 v61 v67 v73 v74 v75) _ r _ 8 (show 8 < 16 by decide) v43 rfl 43 (by simp) i rfl)
    (fun i => Cat.cat_at (pieces v24 v29 v31 v33 v34 v35 v36 v37 v43 v49 v55 v61 v67 v73 v74 v75) _ r _ 9 (show 9 < 16 by decide) v49 rfl 50 (by simp) i rfl)
    (fun i => Cat.cat_at (pieces v24 v29 v31 v33 v34 v35 v36 v37 v43 v49 v55 v61 v67 v73 v74 v75) _ r _ 10 (show 10 < 16 by decide) v55 rfl 57 (by simp) i rfl)
    (fun i => Cat.cat_at (pieces v24 v29 v31 v33 v34 v35 v36 v37 v43 v49 v55 v61 v67 v73 v74 v75) _ r _ 11 (show 11 < 16 by decide) v61 rfl 64 (by simp) i rfl)
    (fun i => Cat.cat_at (pieces v24 v29 v31 v33 v34 v35 v36 v37 v43 v49 v55 v61 v67 v73 v74 v75) _ r _ 12 (show 12 < 16 by decide) v67 rfl 71 (by simp) i rfl)
    (fun i => Cat.cat_at (pieces v24 v29 v31 v33 v34 v35 v36 v37 v43 v49 v55 v61 v67 v73 v74 v75) _ r _ 13 (show 13 < 16 by decide) v73 rfl 78 (by simp) i rfl)
    (fun i => Cat.cat_at (pieces v24 v29 v31 v33 v34 v35 v36 v37 v43 v49 v55 v61 v67 v73 v74 v75) _ r _ 14 (show 14 < 16 by decide) v74 rfl 85 (by simp) i rfl)
    j

end Rows

end Cert.Proof.Joined

end
-- ==== Proof.Block.lean ====
/-
  What one grid point's block holds: each row is the encoder of that row's features.
-/
module

public import proofs.«01_k».proof.Proof.Gen.KernelIdeal.Frame
public import proofs.«01_k».proof.Proof.Spec
public import proofs.«01_k».proof.Proof.Joined

@[expose] public section

set_option maxRecDepth 16384

noncomputable section

namespace Cert.Proof.Block

open Idealize.ShloMosaic Cert.KernelIdeal Cert.KernelIdeal.Gen Cert.Proof.Spec Cert.Proof.Joined

/-- A comparison of two words, widened and read as a number, is the one-hot value. -/
theorem sitofp_cmpi_eq (a b : BitVec 32) :
    (FloatOps.sitofp (F := Ideal) .f32 (BitVec.setWidth 32 (IntOp.cmpi .eq a b)) : EReal) = hot a b := by
  show (((BitVec.setWidth 32 (IntOp.cmpi .eq a b)).toInt : ℝ) : EReal) = hot a b
  unfold hot
  by_cases h : a = b
  · subst h; simp [IntOp.cmpi]
  · have : (a == b) = false := by simpa using h
    simp [IntOp.cmpi, h, this]

/-- The first clipped count, as a number. -/
theorem pay2_at (v : Vec Ideal S1024x1 .i32) (r : Fin 1024) :
    k0_pay2 (F := Ideal) v (ix2 r 0) = (((clip 200#32 (v (ix2 r 0))).toInt : ℝ) : EReal) := by
  pointwise [k0_pay2]
  rfl

/-- The second clipped count, as a number. -/
theorem pay3_at (v : Vec Ideal S1024x1 .i32) (r : Fin 1024) :
    k0_pay3 (F := Ideal) v (ix2 r 0) = (((clip 50#32 (v (ix2 r 0))).toInt : ℝ) : EReal) := by
  pointwise [k0_pay3]
  rfl

/-- The one-hot row of the first count's integer square root. -/
theorem pay4_at (v : Vec Ideal S1024x1 .i32) (r : Fin 1024) (i : Fin 15) :
    k0_pay4 (F := Ideal) v (ix2 r i) = hot (root (clip 200#32 (v (ix2 r 0)))) (BitVec.ofNat 32 i.val) := by
  pointwise [k0_pay4]
  rw [sitofp_cmpi_eq, pay2_at]
  have h := clip_toNat 200#32 (v (ix2 r 0)) (by decide)
  exact congrArg (hot · _) (fptosi_floor_sqrt _ h.1 h.2)

/-- The one-hot row of the second count's integer square root. -/
theorem pay5_at (v : Vec Ideal S1024x1 .i32) (r : Fin 1024) (i : Fin 8) :
    k0_pay5 (F := Ideal) v (ix2 r i) = hot (root (clip 50#32 (v (ix2 r 0)))) (BitVec.ofNat 32 i.val) := by
  pointwise [k0_pay5]
  rw [sitofp_cmpi_eq, pay3_at]
  have h := clip_toNat 50#32 (v (ix2 r 0)) (by decide)
  exact congrArg (hot · _) (fptosi_floor_sqrt _ (h.1.trans (by decide)) h.2)

/-- The first count times the constant 1/200. -/
theorem pay6_at (v : Vec Ideal S1024x1 .i32) (r : Fin 1024) :
    k0_pay6 (F := Ideal) v (ix2 r 0) = share 200 (clip 200#32 (v (ix2 r 0))) := by
  pointwise [k0_pay6]
  rw [pay2_at]
  show (_ : EReal) * ((200⁻¹ : ℝ) : EReal) = _
  unfold share
  rw [EReal.coe_mul]
  norm_num

/-- The second count times the constant 1/50. -/
theorem pay7_at (v : Vec Ideal S1024x1 .i32) (r : Fin 1024) :
    k0_pay7 (F := Ideal) v (ix2 r 0) = share 50 (clip 50#32 (v (ix2 r 0))) := by
  pointwise [k0_pay7]
  rw [pay3_at]
  show (_ : EReal) * ((50⁻¹ : ℝ) : EReal) = _
  unfold share
  rw [EReal.coe_mul]
  norm_num

/-- The second layer: the larger of hidden value and zero, the second matrix product, the second bias. -/
theorem pay1_at (v79 : FVec Ideal S1024x128 .f32) (v80 : Vec Ideal S1x128 .f32) (v86 : Vec Ideal S128x128 .f32) (v88 : Vec Ideal S1x128 .f32)
    (r : Fin 1024) (d : Fin 128) :
    k0_pay1 (F := Ideal) v79 v80 v86 v88 (ix2 r d)
      = (∑ k : Fin 128, max (v79 (ix2 r k) + v80 (ix2 0 k)) 0 * v86 (ix2 k d)) + v88 (ix2 0 d) := by
  pointwise [k0_pay1]

/-- Comparing column `i`'s number with a word that a whole row shares gives the row's one-hot values. -/
theorem onehot_at (v : Vec Ideal S1024x1 .i32) (r : Fin 1024) (i : Fin 7) :
    (sitofp (F := Ideal) .f32 (extui 32 (cmpi .eq (broadcastTo S1024x7 v broadcasts_S1024x1_S1024x7)
      (iota .tc S1024x7 32 [1] iota_S1024x7_d1_w32)) natLt_1_32) (ix2 r i) : EReal)
      = hot (v (ix2 r 0)) (BitVec.ofNat 32 i.val) := by
  pointwise
  exact sitofp_cmpi_eq _ _

/-- The first layer before its bias: with a padded matrix whose rows 89 … 95 are zero, the product of the padded features
    is the sum over the 89 features. -/
theorem pay8_at (v24 : FVec Ideal S1024x15 .f32) (v29 : FVec Ideal S1024x8 .f32) (v31 : FVec Ideal S1024x1 .f32) (v33 : FVec Ideal S1024x1 .f32)
    (v34 : Vec Ideal S1024x3 .f32) (v35 : Vec Ideal S1024x4 .f32) (v36 : Vec Ideal S1024x6 .f32) (v37 : Vec Ideal S1024x5 .f32)
    (v38 v44 v50 v56 v62 v68 : Vec Ideal S1024x1 .i32) (v74 : Vec Ideal S1024x4 .f32) (v77 : Vec Ideal S96x128 .f32)
    (W : Fin 89 → Fin 128 → EReal) (hW : ∀ (j : Fin 89) k, v77 (ix2 ⟨j.val, by omega⟩ k) = W j k)
    (h0 : ∀ (j : Fin 96) k, 89 ≤ j.val → v77 (ix2 j k) = 0) (r : Fin 1024) (k : Fin 128) :
    k0_pay8 (F := Ideal) v24 v29 v31 v33 v34 v35 v36 v37 v38 v44 v50 v56 v62 v68 v74 v77 (ix2 r k)
      = ∑ j : Fin 89, row (fun i => v24 (ix2 r i)) (fun i => v29 (ix2 r i)) (v31 (ix2 r 0)) (v33 (ix2 r 0)) (fun i => v34 (ix2 r i))
          (fun i => v35 (ix2 r i)) (fun i => v36 (ix2 r i)) (fun i => v37 (ix2 r i))
          (fun i => hot (v38 (ix2 r 0)) (BitVec.ofNat 32 i.val)) (fun i => hot (v44 (ix2 r 0)) (BitVec.ofNat 32 i.val))
          (fun i => hot (v50 (ix2 r 0)) (BitVec.ofNat 32 i.val)) (fun i => hot (v56 (ix2 r 0)) (BitVec.ofNat 32 i.val))
          (fun i => hot (v62 (ix2 r 0)) (BitVec.ofNat 32 i.val)) (fun i => hot (v68 (ix2 r 0)) (BitVec.ofNat 32 i.val))
          (fun i => v74 (ix2 r i)) j * W j k := by
  have e : ∀ x : FVec Ideal S1024x96 .f32,
      matmul (φ₁ := .f32) (φ₂ := .f32) dot_S1024x96_S96x128_S1024x128_1_0_0_1_n_n none x (shapeCast S96x128 v77 shapeCasts_S96x128_S96x128)
        (constant (F := Ideal) S1024x128 .f32 0x00000000#32) (ix2 r k) = ∑ j : Fin 96, x (ix2 r j) * v77 (ix2 j k) := by
    intro x
    pointwise
  refine (e (joined v24 v29 v31 v33 v34 v35 v36 v37 _ _ _ _ _ _ v74 _)).trans ?_
  refine (Fin.sum_univ_add (a := 89) (b := 7) fun j : Fin 96 => joined v24 v29 v31 v33 v34 v35 v36 v37 _ _ _ _ _ _ v74 _ (ix2 r j) * v77 (ix2 j k)).trans ?_
  rw [Finset.sum_eq_zero (s := (Finset.univ : Finset (Fin 7))) fun i _ => by
    rw [h0 (Fin.natAdd 89 i) k (by simp), mul_zero], add_zero]
  refine Finset.sum_congr rfl fun j _ => ?_
  rw [← hW j k]
  refine congrArg (· * _) ((joined_at v24 v29 v31 v33 v34 v35 v36 v37 _ _ _ _ _ _ v74 _ r j).trans ?_)
  rw [funext (onehot_at v38 r), funext (onehot_at v44 r), funext (onehot_at v50 r), funext (onehot_at v56 r),
    funext (onehot_at v62 r), funext (onehot_at v68 r)]

/-- One row of the block the body stores, from the blocks it loads: the encoder of the row's features. -/
theorem block_at (x0 x1 : Vec Ideal S1024x1 .i32) (x2 : Vec Ideal S1024x3 .f32) (x3 x4 : Vec Ideal S1024x4 .f32)
    (x5 : Vec Ideal S1024x6 .f32) (x6 : Vec Ideal S1024x5 .f32) (v38 v44 v50 v56 v62 v68 : Vec Ideal S1024x1 .i32)
    (x10 : Vec Ideal S96x128 .f32) (x11 : Vec Ideal S1x128 .f32) (x12 : Vec Ideal S128x128 .f32) (x13 : Vec Ideal S1x128 .f32)
    (W : Fin 89 → Fin 128 → EReal) (hW : ∀ (j : Fin 89) k, x10 (ix2 ⟨j.val, by omega⟩ k) = W j k)
    (h0 : ∀ (j : Fin 96) k, 89 ≤ j.val → x10 (ix2 j k) = 0) (n tp fc : Fin 2 → BitVec 32) (r : Fin 1024) (d : Fin 128)
    (hn0 : v38 (ix2 r 0) = n 0) (hn1 : v44 (ix2 r 0) = n 1) (ht0 : v50 (ix2 r 0) = tp 0) (ht1 : v56 (ix2 r 0) = tp 1)
    (hf0 : v62 (ix2 r 0) = fc 0) (hf1 : v68 (ix2 r 0) = fc 1) :
    k0_pay1 (F := Ideal) (k0_pay8 (k0_pay4 x0) (k0_pay5 x1) (k0_pay6 x0) (k0_pay7 x1) x2 x3 x5 x6 v38 v44 v50 v56 v62 v68 x4 x10)
        x11 x12 x13 (ix2 r d)
      = encode (feature (x0 (ix2 r 0)) (x1 (ix2 r 0)) (fun i => x2 (ix2 r i)) (fun i => x3 (ix2 r i)) (fun i => x5 (ix2 r i))
          (fun i => x6 (ix2 r i)) n tp fc (fun i => x4 (ix2 r i))) W (fun k => x11 (ix2 0 k)) (fun k l => x12 (ix2 k l))
          (fun k => x13 (ix2 0 k)) d := by
  rw [pay1_at]
  unfold encode feature
  simp only [pay8_at _ _ _ _ _ _ _ _ _ _ _ _ _ _ _ _ W hW h0, pay6_at, pay7_at, hn0, hn1, ht0, ht1, hf0, hf1]
  rw [funext (pay4_at x0 r), funext (pay5_at x1 r)]

end Cert.Proof.Block

end
-- ==== Proof.Padded.lean ====
/-
  The first weight matrix as the kernel is given it: written over rows 0 … 88 of a matrix of zeros with 96 rows.
-/
module

public import proofs.«01_k».proof.Proof.Gen.KernelIdeal
public import Idealize.ShloMosaic.Lib.Pointwise
public import Idealize.ShloMosaic.Lib.Routing.OpsSet

@[expose] public section

set_option maxRecDepth 16384

noncomputable section

namespace Cert.Proof.Padded

open Idealize.ShloMosaic Cert.KernelIdeal Cert.KernelIdeal.Gen

/-- Entry `(a, b)` of the smaller matrix is written at entry `(a, b)` of the larger. -/
theorem lands (idx : IVec S1 32) (h : idx (ix1 0) = 0#32) (a : Fin 89) (b : Fin 128) (r : Fin 96) (c : Fin 128) :
    scatter_S96x128_S1_S89x128_01_n_0_0.resultIdx? (ix2 a b) idx = some (ix2 r c) ↔ a.val = r.val ∧ b.val = c.val := by
  have s0 : scatter_S96x128_S1_S89x128_01_n_0_0.start (ix2 a b) idx 0 = 0 := by
    unfold ScatterDims.start
    rw [dif_pos (show (0 : Fin 2) ∈ scatter_S96x128_S1_S89x128_01_n_0_0.scatterDimsToOperandDims from List.mem_singleton.2 rfl)]
    refine Eq.trans (congrArg (fun w => (idx w).toInt) (show _ = ix1 0 from funext fun e => ?_)) (by rw [h]; rfl)
    match e with
    | ⟨0, _⟩ => exact Subsingleton.elim (α := Fin 1) _ _
  have s1 : scatter_S96x128_S1_S89x128_01_n_0_0.start (ix2 a b) idx 1 = 0 := by
    unfold ScatterDims.start
    rw [dif_neg (show (1 : Fin 2) ∉ scatter_S96x128_S1_S89x128_01_n_0_0.scatterDimsToOperandDims from
      fun q => absurd (List.mem_singleton.1 q) (by decide))]
  have w0 : scatter_S96x128_S1_S89x128_01_n_0_0.window (ix2 a b) 0 = a.val := rfl
  have w1 : scatter_S96x128_S1_S89x128_01_n_0_0.window (ix2 a b) 1 = b.val := rfl
  refine (Routing.resultIdx?_ix2 _ _ _ _ _).trans ?_
  rw [s0, s1, w0, w1]
  omega

/-- The padded matrix at an entry: the given matrix on its rows, zero below. -/
theorem padded_at (f : FVec Ideal S89x128 .f32) (j : Fin 96) (k : Fin 128) :
    Host.scatter scatter_S96x128_S1_S89x128_01_n_0_0 (fun _ b => b)
        (broadcastInDim S96x128 ![] bcast_S_S96x128 (constant (F := Ideal) S_ .f32 0x00000000#32))
        (broadcastInDim S1 ![] bcast_S_S1 (constantI S_ 32 0#32)) f (ix2 j k)
      = if h : j.val < 89 then f (ix2 ⟨j.val, h⟩ k) else 0 := by
  have hi : (broadcastInDim S1 ![] bcast_S_S1 (constantI S_ 32 0#32) : IVec S1 32) (ix1 0) = 0#32 := rfl
  split_ifs with h
  · refine Routing.scatter_set_hit _ _ _ _ _ _ (fun q hq => ?_) (ix2 ⟨j.val, h⟩ k) ((lands _ hi _ _ _ _).2 ⟨rfl, rfl⟩)
    idx_vars q
    obtain ⟨h₀, h₁⟩ := (lands _ hi _ _ _ _).1 hq
    congr 2
    · exact Fin.ext h₀
    · exact Fin.ext h₁
  · refine (Routing.scatter_set_miss _ _ _ _ _ fun q hq => ?_).trans ?_
    · idx_vars q
      have := ((lands _ hi _ _ _ _).1 hq).1
      omega
    · pointwise

end Cert.Proof.Padded

end
-- ==== Proof.Array.lean ====
/-
  What the kernel's result array holds after the run: the encoder of every row.
-/
module

public import proofs.«01_k».proof.Proof.Gen.KernelIdeal.Value
public import proofs.«01_k».proof.Proof.Block
public import proofs.«01_k».proof.Proof.Padded
public import Idealize.ShloMosaic.Lib.Claim
public import Idealize.ShloMosaic.Lib.Pipeline.ValueKit

@[expose] public section

set_option maxRecDepth 16384

noncomputable section

namespace Cert.Proof.Array

open Idealize.ShloMosaic Idealize.SL.Sem Cert.KernelIdeal Cert.KernelIdeal.Gen Cert.Proof.Spec Cert.Proof.Block

variable (m : (ℓ : Loc nD τ sig) → Buf (Elt Ideal) ℓ)

/-- The window's block numbers at grid point `t`: the row windows take block `t`, the others block 0. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

/-- The result array the kernel leaves, over the launch contents. -/
def value (c : Dev nD) : FVec Ideal S16384x128 .f32 := fun i =>
  whole (m ((c.tc : Thread nD τ).loc main_arg0) : IVec S16384 32)
    (m ((c.tc : Thread nD τ).loc main_arg1) : IVec S16384 32)
    (m ((c.tc : Thread nD τ).loc main_arg2) : FVec Ideal S16384x3 .f32)
    (m ((c.tc : Thread nD τ).loc main_arg3) : FVec Ideal S16384x4 .f32)
    (m ((c.tc : Thread nD τ).loc main_arg4) : FVec Ideal S16384x4 .f32)
    (m ((c.tc : Thread nD τ).loc main_arg5) : FVec Ideal S16384x6 .f32)
    (m ((c.tc : Thread nD τ).loc main_arg6) : FVec Ideal S16384x5 .f32)
    (m ((c.tc : Thread nD τ).loc main_arg8) : IVec S16384x2 32)
    (m ((c.tc : Thread nD τ).loc main_arg9) : IVec S16384x2 32)
    (m ((c.tc : Thread nD τ).loc main_arg10) : IVec S16384x2 32)
    (m ((c.tc : Thread nD τ).loc main_arg11) : FVec Ideal S89x128 .f32)
    (m ((c.tc : Thread nD τ).loc main_arg12) : FVec Ideal S128 .f32)
    (m ((c.tc : Thread nD τ).loc main_arg13) : FVec Ideal S128x128 .f32)
    (m ((c.tc : Thread nD τ).loc main_arg14) : FVec Ideal S128 .f32)
    (i 0) (i 1)

/-- Row `r` of block `t`, as a row of the array. -/
def rowOf (t : Fin cfg0.N) (r : Fin 1024) : Fin 16384 := ⟨t.val * 1024 + r.val, by have := t.isLt; have : cfg0.N = 16 := rfl; omega⟩

/-- Window 0's block holds its rows of argument 0. -/
theorem in0 (c : Dev nD) (t : Fin cfg0.N) (r : Fin 1024) :
    (iblk m c 0 t : Vec Ideal S1024x1 .i32) (ix2 r 0) = (m ((c.tc : Thread nD τ).loc main_arg0) : IVec S16384 32) (ix1 (rowOf t r)) := by
  blk_point [iblk, idx t, rowOf]

/-- Window 1's block holds its rows of argument 1. -/
theorem in1 (c : Dev nD) (t : Fin cfg0.N) (r : Fin 1024) :
    (iblk m c 1 t : Vec Ideal S1024x1 .i32) (ix2 r 0) = (m ((c.tc : Thread nD τ).loc main_arg1) : IVec S16384 32) (ix1 (rowOf t r)) := by
  blk_point [iblk, idx t, rowOf]

/-- Window 2's block holds its rows of argument 2. -/
theorem in2 (c : Dev nD) (t : Fin cfg0.N) (r : Fin 1024) (i : Fin 3) :
    (iblk m c 2 t : Vec Ideal S1024x3 .f32) (ix2 r i) = (m ((c.tc : Thread nD τ).loc main_arg2) : FVec Ideal S16384x3 .f32) (ix2 (rowOf t r) i) := by
  blk_point [iblk, V, idx t, rowOf]

/-- Window 3's block holds its rows of argument 3. -/
theorem in3 (c : Dev nD) (t : Fin cfg0.N) (r : Fin 1024) (i : Fin 4) :
    (iblk m c 3 t : Vec Ideal S1024x4 .f32) (ix2 r i) = (m ((c.tc : Thread nD τ).loc main_arg3) : FVec Ideal S16384x4 .f32) (ix2 (rowOf t r) i) := by
  blk_point [iblk, V, idx t, rowOf]

/-- Window 4's block holds its rows of argument 4. -/
theorem in4 (c : Dev nD) (t : Fin cfg0.N) (r : Fin 1024) (i : Fin 4) :
    (iblk m c 4 t : Vec Ideal S1024x4 .f32) (ix2 r i) = (m ((c.tc : Thread nD τ).loc main_arg4) : FVec Ideal S16384x4 .f32) (ix2 (rowOf t r) i) := by
  blk_point [iblk, V, idx t, rowOf]

/-- Window 5's block holds its rows of argument 5. -/
theorem in5 (c : Dev nD) (t : Fin cfg0.N) (r : Fin 1024) (i : Fin 6) :
    (iblk m c 5 t : Vec Ideal S1024x6 .f32) (ix2 r i) = (m ((c.tc : Thread nD τ).loc main_arg5) : FVec Ideal S16384x6 .f32) (ix2 (rowOf t r) i) := by
  blk_point [iblk, V, idx t, rowOf]

/-- Window 6's block holds its rows of argument 6. -/
theorem in6 (c : Dev nD) (t : Fin cfg0.N) (r : Fin 1024) (i : Fin 5) :
    (iblk m c 6 t : Vec Ideal S1024x5 .f32) (ix2 r i) = (m ((c.tc : Thread nD τ).loc main_arg6) : FVec Ideal S16384x5 .f32) (ix2 (rowOf t r) i) := by
  blk_point [iblk, V, idx t, rowOf]

/-- Column 0 of window 7's block holds that column of its rows of argument 8. -/
theorem in7_0 (c : Dev nD) (t : Fin cfg0.N) (r : Fin 1024) :
    (View.ld (iblk m c 7 t : Vec Ideal S1024x2 .i32) r0_5 : Vec Ideal S1024x1 .i32) (ix2 r 0) = (m ((c.tc : Thread nD τ).loc main_arg8) : IVec S16384x2 32) (ix2 (rowOf t r) 0) := by
  blk_point [iblk, V, idx t, rowOf]

/-- Column 1 of window 7's block holds that column of its rows of argument 8. -/
theorem in7_1 (c : Dev nD) (t : Fin cfg0.N) (r : Fin 1024) :
    (View.ld (iblk m c 7 t : Vec Ideal S1024x2 .i32) r0_6 : Vec Ideal S1024x1 .i32) (ix2 r 0) = (m ((c.tc : Thread nD τ).loc main_arg8) : IVec S16384x2 32) (ix2 (rowOf t r) 1) := by
  blk_point [iblk, V, idx t, rowOf]

/-- Column 0 of window 8's block holds that column of its rows of argument 9. -/
theorem in8_0 (c : Dev nD) (t : Fin cfg0.N) (r : Fin 1024) :
    (View.ld (iblk m c 8 t : Vec Ideal S1024x2 .i32) r0_5 : Vec Ideal S1024x1 .i32) (ix2 r 0) = (m ((c.tc : Thread nD τ).loc main_arg9) : IVec S16384x2 32) (ix2 (rowOf t r) 0) := by
  blk_point [iblk, V, idx t, rowOf]

/-- Column 1 of window 8's block holds that column of its rows of argument 9. -/
theorem in8_1 (c : Dev nD) (t : Fin cfg0.N) (r : Fin 1024) :
    (View.ld (iblk m c 8 t : Vec Ideal S1024x2 .i32) r0_6 : Vec Ideal S1024x1 .i32) (ix2 r 0) = (m ((c.tc : Thread nD τ).loc main_arg9) : IVec S16384x2 32) (ix2 (rowOf t r) 1) := by
  blk_point [iblk, V, idx t, rowOf]

/-- Column 0 of window 9's block holds that column of its rows of argument 10. -/
theorem in9_0 (c : Dev nD) (t : Fin cfg0.N) (r : Fin 1024) :
    (View.ld (iblk m c 9 t : Vec Ideal S1024x2 .i32) r0_5 : Vec Ideal S1024x1 .i32) (ix2 r 0) = (m ((c.tc : Thread nD τ).loc main_arg10) : IVec S16384x2 32) (ix2 (rowOf t r) 0) := by
  blk_point [iblk, V, idx t, rowOf]

/-- Column 1 of window 9's block holds that column of its rows of argument 10. -/
theorem in9_1 (c : Dev nD) (t : Fin cfg0.N) (r : Fin 1024) :
    (View.ld (iblk m c 9 t : Vec Ideal S1024x2 .i32) r0_6 : Vec Ideal S1024x1 .i32) (ix2 r 0) = (m ((c.tc : Thread nD τ).loc main_arg10) : IVec S16384x2 32) (ix2 (rowOf t r) 1) := by
  blk_point [iblk, V, idx t, rowOf]

/-- Window 11's block is argument 12 as one row. -/
theorem in11 (c : Dev nD) (t : Fin cfg0.N) (k : Fin 128) :
    (iblk m c 11 t : Vec Ideal S1x128 .f32) (ix2 0 k) = (m ((c.tc : Thread nD τ).loc main_arg12) : FVec Ideal S128 .f32) (ix1 k) := by
  blk_point [iblk, idx t]

/-- Window 13's block is argument 14 as one row. -/
theorem in13 (c : Dev nD) (t : Fin cfg0.N) (k : Fin 128) :
    (iblk m c 13 t : Vec Ideal S1x128 .f32) (ix2 0 k) = (m ((c.tc : Thread nD τ).loc main_arg14) : FVec Ideal S128 .f32) (ix1 k) := by
  blk_point [iblk, idx t]

/-- Window 12's block is argument 13. -/
theorem in12 (c : Dev nD) (t : Fin cfg0.N) (k l : Fin 128) :
    (iblk m c 12 t : Vec Ideal S128x128 .f32) (ix2 k l) = (m ((c.tc : Thread nD τ).loc main_arg13) : FVec Ideal S128x128 .f32) (ix2 k l) := by
  blk_point [iblk, V, idx t]

/-- Window 10's block is argument 11 padded with rows of zeros. -/
theorem in10 (c : Dev nD) (t : Fin cfg0.N) (j : Fin 96) (k : Fin 128) :
    (iblk m c 10 t : Vec Ideal S96x128 .f32) (ix2 j k) = if h : j.val < 89 then (m ((c.tc : Thread nD τ).loc main_arg11) : FVec Ideal S89x128 .f32) (ix2 ⟨j.val, h⟩ k) else (0 : EReal) := by
  have e : ((win0_10.blk t).view.emb (ix2 j k) : S96x128.Idx) = ix2 j k := by blk_ext [idx t]
  have v : (V m c main_v2 : FVec Ideal S96x128 .f32)
      = Host.scatter scatter_S96x128_S1_S89x128_01_n_0_0 (fun _ b => b)
        (broadcastInDim S96x128 ![] bcast_S_S96x128 (constant (F := Ideal) S_ .f32 0x00000000#32))
        (broadcastInDim S1 ![] bcast_S_S1 (constantI S_ 32 0#32)) (m ((c.tc : Thread nD τ).loc main_arg11) : FVec Ideal S89x128 .f32) := by
    entry_read
    rfl
  blk_simp [iblk, idx t]
  exact (congrArg (V m c main_v2) e).trans ((congrFun v _).trans (Padded.padded_at _ j k))

set_option maxHeartbeats 1600000 in
/-- After the run the result array is the encoder of every row. -/
theorem final (c : Dev nD) : (dats m 0 c).arrAt 14 (cfgs 0).N = value m c := by
  refine (dats m 0 c).arrAt_eq_of_covers 14 _ (by decide +kernel) fun t _ y => ?_
  blk_simp
  rw [after0_14]; frame_out
  idx_vars y
  have e : (((View.whole main_v7).slice (win0_14.rect t)).emb (ix2 y0 y1) : S16384x128.Idx) = ix2 (rowOf t y0) y1 := by
    blk_ext [idx t, rowOf]
  refine Eq.trans (block_at _ _ _ _ _ _ _ _ _ _ _ _ _ _ _ _ _ (fun j k => (m ((c.tc : Thread nD τ).loc main_arg11) : FVec Ideal S89x128 .f32) (ix2 j k))
    (fun j k => (in10 m c t _ k).trans (dif_pos j.isLt)) (fun j k hj => (in10 m c t j k).trans (dif_neg (Nat.not_lt.2 hj)))
    (fun i => (m ((c.tc : Thread nD τ).loc main_arg8) : IVec S16384x2 32) (ix2 (rowOf t y0) i)) (fun i => (m ((c.tc : Thread nD τ).loc main_arg9) : IVec S16384x2 32) (ix2 (rowOf t y0) i)) (fun i => (m ((c.tc : Thread nD τ).loc main_arg10) : IVec S16384x2 32) (ix2 (rowOf t y0) i)) y0 y1
    (in7_0 m c t y0) (in7_1 m c t y0) (in8_0 m c t y0) (in8_1 m c t y0) (in9_0 m c t y0) (in9_1 m c t y0)) ?_
  refine Eq.trans ?_ (congrArg (value m c) e).symm
  show _ = whole _ _ _ _ _ _ _ _ _ _ _ _ _ _ (rowOf t y0) y1
  unfold whole
  rw [in0 m c t y0, in1 m c t y0, funext (in2 m c t y0), funext (in3 m c t y0), funext (in4 m c t y0), funext (in5 m c t y0),
    funext (in6 m c t y0), funext (in11 m c t), funext fun k => funext (in12 m c t k), funext (in13 m c t)]

end Cert.Proof.Array

end
-- ==== Proof.Lookup.lean ====
/-
  Taking rows of a matrix: the gather whose every start index is a row number, read at an entry.
-/
module

public import proofs.«01_k».proof.Proof.Gen.ReferenceIdeal
public import Idealize.ShloMosaic.Lib.Pointwise
public import Idealize.ShloMosaic.Lib.ValueIdxCore

@[expose] public section

set_option maxRecDepth 16384

noncomputable section

namespace Cert.Proof.Lookup

open Idealize.ShloMosaic Cert.ReferenceIdeal Cert.ReferenceIdeal.Gen

/-- Whole rows of an `N × C` matrix, one for each of `B` row numbers. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Entry `(r, j)` of the taken rows is entry `j` of the row whose number is read at `r`, clamped into the matrix. -/
theorem rows_at {α : Type} {N C B : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (r : Fin B) (j : Fin C) :
    Host.gather (rowDims N C B wf) x idx (ix2 r j)
      = x (ix2 ⟨min (idx (ix2 r 0)).toInt.toNat (N - 1), by omega⟩ j) := by
  unfold Host.gather
  congr 1
  funext a
  refine Fin.ext ?_
  show (rowDims N C B wf).start (ix2 r j) idx a + (rowDims N C B wf).batchCoord (ix2 r j) a
      + (rowDims N C B wf).offCoord (ix2 r j) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ fun h => ((GatherDims.mem_sKept _ _).mp h).1 (List.mem_singleton.mpr rfl),
      Nat.add_zero]
    unfold GatherDims.start
    rw [dif_pos (show (0 : Fin 2) ∈ (rowDims N C B wf).startIndexMap from List.mem_singleton.mpr rfl)]
    refine congrArg (fun w => min (idx w).toInt.toNat (N - 1)) (show _ = ix2 r 0 from funext fun e => Fin.ext ?_)
    match e with
    | ⟨0, _⟩ => rfl
    | ⟨1, _⟩ => rfl
  · have hs : (rowDims N C B wf).start (ix2 r j) idx (1 : Fin 2) = 0 := by
      unfold GatherDims.start
      rw [dif_neg (show (1 : Fin 2) ∉ (rowDims N C B wf).startIndexMap from
        fun q => absurd (List.mem_singleton.1 q) Fin.zero_ne_one.symm)]
    refine (congrArg (· + _) hs).trans ((Nat.zero_add _).trans ?_)
    rfl

/-- Whole rows of an `N × C` matrix, one for each entry of a `B × D` table of row numbers. -/
abbrev pairDims (N C B D : Nat)
    (wf : GatherDims.WF ⟨2, ![N, C]⟩ ⟨3, ![B, D, 1]⟩ ⟨3, ![B, D, C]⟩ [2] [0] [] [0] [] 2 ![1, C]) :
    GatherDims ⟨2, ![N, C]⟩ ⟨3, ![B, D, 1]⟩ ⟨3, ![B, D, C]⟩ where
  offsetDims := [2]
  collapsedSliceDims := [0]
  operandBatchingDims := []
  startIndicesBatchingDims := []
  startIndexMap := [0]
  indexVectorDim := 2
  sliceSizes := ![1, C]
  wf := wf

/-- Entry `(r, p, j)` of the taken rows is entry `j` of the row whose number is read at `(r, p)`, clamped into the
    matrix. -/
theorem pair_at {α : Type} {N C B D : Nat} (hN : 0 < N)
    (wf : GatherDims.WF ⟨2, ![N, C]⟩ ⟨3, ![B, D, 1]⟩ ⟨3, ![B, D, C]⟩ [2] [0] [] [0] [] 2 ![1, C])
    (x : (⟨2, ![N, C]⟩ : Shape).Idx → α) (idx : IVec ⟨3, ![B, D, 1]⟩ 32) (r : Fin B) (p : Fin D) (j : Fin C) :
    Host.gather (pairDims N C B D wf) x idx (ix3 r p j)
      = x (ix2 ⟨min (idx (ix3 r p 0)).toInt.toNat (N - 1), by omega⟩ j) := by
  unfold Host.gather
  congr 1
  funext a
  refine Fin.ext ?_
  show (pairDims N C B D wf).start (ix3 r p j) idx a + (pairDims N C B D wf).batchCoord (ix3 r p j) a
      + (pairDims N C B D wf).offCoord (ix3 r p j) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ fun h => ((GatherDims.mem_sKept _ _).mp h).1 (List.mem_singleton.mpr rfl),
      Nat.add_zero]
    unfold GatherDims.start
    rw [dif_pos (show (0 : Fin 2) ∈ (pairDims N C B D wf).startIndexMap from List.mem_singleton.mpr rfl)]
    refine congrArg (fun w => min (idx w).toInt.toNat (N - 1)) (show _ = ix3 r p 0 from funext fun e => Fin.ext ?_)
    match e with
    | ⟨0, _⟩ => rfl
    | ⟨1, _⟩ => rfl
    | ⟨2, _⟩ => rfl
  · have hs : (pairDims N C B D wf).start (ix3 r p j) idx (1 : Fin 2) = 0 := by
      unfold GatherDims.start
      rw [dif_neg (show (1 : Fin 2) ∉ (pairDims N C B D wf).startIndexMap from
        fun q => absurd (List.mem_singleton.1 q) Fin.zero_ne_one.symm)]
    refine (congrArg (· + _) hs).trans ((Nat.zero_add _).trans ?_)
    rfl

end Cert.Proof.Lookup

end
-- ==== Proof.Turns.lean ====
/-
  The reference's two turn counts: the looked-up one-hot row of a clipped count, and the count as a share.
-/
module

public import proofs.«01_k».proof.Proof.Lookup
public import proofs.«01_k».proof.Proof.Spec
public import Idealize.ShloMosaic.Lib.ReduceAll
public import Idealize.ShloMosaic.Lib.Affine
public import Idealize.ShloMosaic.Lib.Routing.OpsPair
public import Idealize.ShloMosaic.Lib.IdealHost

@[expose] public section

set_option maxRecDepth 16384

noncomputable section

namespace Cert.Proof.Turns

open Idealize.ShloMosaic Cert.ReferenceIdeal Cert.ReferenceIdeal.Gen Cert.Proof.Spec

/-- Every word clipped to `0 … hi`. -/
abbrev clipped (hi : BitVec 32) (x : IVec S16384 32) : IVec S16384 32 :=
  minsi (broadcastInDim S16384 ![] bcast_S_S16384 (id (constantI S_ 32 hi)))
    (maxsi (broadcastInDim S16384 ![] bcast_S_S16384 (id (constantI S_ 32 0#32))) x)

/-- The row numbers: a negative word counts from the end of a table of `n` rows. -/
abbrev wrapped (n : BitVec 32) (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 n))) x)

/-- Whether each row number lies in `0 … b`. -/
abbrev inside (b : BitVec 32) (I : IVec S16384x1 32) : IVec S16384 1 :=
  Host.reduce IntOp.andi
    (andi (cmpi .sge I (broadcastInDim S16384x1 ![] bcast_S_S16384x1 (constantI S_ 32 0#32)))
      (cmpi .sle I (broadcastInDim S16384x1 ![0, 1] bcast_S1x1_S16384x1_0_1 (broadcastInDim S1x1 ![1] bcast_S1_S1x1_1 (constantI S1 32 b)))))
    (constantI S_ 1 1#1) reducesTo_S16384x1_S16384_d1 h_S_

/-- A clipped word at a row. -/
theorem clipped_at (hi : BitVec 32) (x : IVec S16384 32) (r : Fin 16384) : clipped hi x (ix1 r) = clip hi (x (ix1 r)) := rfl

/-- A row number that is not negative is the word itself. -/
theorem wrapped_at (n : BitVec 32) (x : IVec S16384 32) (r : Fin 16384) (h : (x (ix1 r)).toNat < 2 ^ 31) :
    wrapped n x (ix2 r 0) = x (ix1 r) := by
  have e : wrapped n x (ix2 r 0) = Scalar.select (IntOp.cmpi .slt (x (ix1 r)) 0#32) (IntOp.addi (x (ix1 r)) n) (x (ix1 r)) := by
    pointwise [wrapped]
  exact e.trans (Routing.wrap_of_lt _ _ h)

/-- Row numbers that all lie in `0 … b` are all found inside. -/
theorem inside_at (b : BitVec 32) (I : IVec S16384x1 32) (h : ∀ r : Fin 16384, 0 ≤ (I (ix2 r 0)).toInt ∧ (I (ix2 r 0)).toInt ≤ b.toInt)
    (r : Fin 16384) : inside b I (ix1 r) = 1#1 := by
  refine Host.reduce_andi_one _ _ _ _ _ rfl fun i => ?_
  idx_vars i
  obtain rfl : i1 = 0 := Subsingleton.elim _ _
  obtain ⟨h₀, h₁⟩ := h i0
  have e : andi (cmpi .sge I (broadcastInDim S16384x1 ![] bcast_S_S16384x1 (constantI S_ 32 0#32)))
      (cmpi .sle I (broadcastInDim S16384x1 ![0, 1] bcast_S1x1_S16384x1_0_1 (broadcastInDim S1x1 ![1] bcast_S1_S1x1_1 (constantI S1 32 b)))) (ix2 i0 0)
      = IntOp.andi (IntOp.cmpi .sge (I (ix2 i0 0)) 0#32) (IntOp.cmpi .sle (I (ix2 i0 0)) b) := by
    pointwise
  rw [e]
  have a₀ : IntOp.cmpi .sge (I (ix2 i0 0)) 0#32 = 1#1 := by
    simp only [IntOp.cmpi, BitVec.sle, BitVec.toInt_zero, decide_eq_true h₀]; rfl
  have a₁ : IntOp.cmpi .sle (I (ix2 i0 0)) b = 1#1 := by
    simp only [IntOp.cmpi, BitVec.sle, decide_eq_true h₁]; rfl
  rw [a₀, a₁]
  rfl

/-- Row `i` of the first table is one at the integer square root of `i` and zero elsewhere. -/
theorem lit0_at : ∀ (i : Fin 202) (j : Fin 15), lit0 ⟨i.val * 15 + j.val, by omega⟩
    = if j.val * j.val ≤ i.val ∧ i.val < (j.val + 1) * (j.val + 1) then 0x3F800000#32 else 0x00000000#32 := by
  decide +kernel

/-- Row `i` of the second table is one at the integer square root of `i` and zero elsewhere. -/
theorem lit1_at : ∀ (i : Fin 53) (j : Fin 8), lit1 ⟨i.val * 8 + j.val, by omega⟩
    = if j.val * j.val ≤ i.val ∧ i.val < (j.val + 1) * (j.val + 1) then 0x3F800000#32 else 0x00000000#32 := by
  decide +kernel

/-- The bits of one or zero, chosen by whether `j` is the integer square root of a small word, read as the one-hot value. -/
theorem entry_hot (x : BitVec 32) (i j : ℕ) (hi : i = x.toNat) (hx : x.toNat ≤ 200) (hj : j < 15) :
    FloatOps.ofBits (F := Ideal) .f32
        (if j * j ≤ i ∧ i < (j + 1) * (j + 1) then 0x3F800000#32 else 0x00000000#32)
      = hot (root x) (BitVec.ofNat 32 j) := by
  subst hi
  have hs : Nat.sqrt x.toNat ≤ 200 := (Nat.sqrt_le_self _).trans hx
  have k : (root x = BitVec.ofNat 32 j) ↔ (j * j ≤ x.toNat ∧ x.toNat < (j + 1) * (j + 1)) := by
    rw [← Nat.eq_sqrt]
    unfold root
    constructor
    · intro h
      have := congrArg BitVec.toNat h
      rw [BitVec.toNat_ofNat, BitVec.toNat_ofNat, Nat.mod_eq_of_lt (by omega), Nat.mod_eq_of_lt (by omega)] at this
      exact this.symm
    · rintro rfl
      rfl
  unfold hot
  by_cases h : root x = BitVec.ofNat 32 j
  · rw [if_pos h, if_pos (k.1 h)]
    exact Ideal.ofBits_one_f32
  · rw [if_neg h, if_neg fun q => h (k.2 q)]
    exact Ideal.ofBits_zero_f32

/-- A choice made row by row, at an entry. -/
theorem pick15_at (u : IVec S16384 1) (v w : FVec Ideal S16384x15 .f32) (r : Fin 16384) (j : Fin 15) :
    select (broadcastInDim S16384x15 ![0] bcast_S16384_S16384x15_0 u) v w (ix2 r j) = Scalar.select (u (ix1 r)) (v (ix2 r j)) (w (ix2 r j)) := by
  pointwise

/-- The rows of the first table the clipped counts name. -/
abbrev turn (x : IVec S16384 32) : FVec Ideal S16384x15 .f32 :=
  select (broadcastInDim S16384x15 ![0] bcast_S16384_S16384x15_0 (inside 201#32 (wrapped 202#32 (clipped 200#32 x))))
    (Host.gather gather_S202x15_S16384x1_S16384x15_1_0_n_n_0_1_115
      (fun i => FloatOps.ofBits .f32 (lit0 (S202x15.rowMajor i))) (wrapped 202#32 (clipped 200#32 x)))
    (broadcastInDim S16384x15 ![] bcast_S_S16384x15 (constant (F := Ideal) S_ .f32 0x7FC00000#32))

/-- The looked-up row is the one-hot row of the clipped count's integer square root. -/
theorem turn_at (x : IVec S16384 32) (r : Fin 16384) (j : Fin 15) :
    turn x (ix2 r j) = hot (root (clip 200#32 (x (ix1 r)))) (BitVec.ofNat 32 j.val) := by
  have hb : ∀ r : Fin 16384, (clip 200#32 (x (ix1 r))).toNat ≤ 200 ∧ (clip 200#32 (x (ix1 r))).toInt = ((clip 200#32 (x (ix1 r))).toNat : Int) :=
    fun r => clip_toNat 200#32 _ (by decide)
  have hw : ∀ r : Fin 16384, wrapped 202#32 (clipped 200#32 x) (ix2 r 0) = clip 200#32 (x (ix1 r)) :=
    fun r => wrapped_at 202#32 (clipped 200#32 x) r (show (clip 200#32 (x (ix1 r))).toNat < 2 ^ 31 by have := (hb r).1; omega)
  have hin : inside 201#32 (wrapped 202#32 (clipped 200#32 x)) (ix1 r) = 1#1 := by
    refine inside_at _ _ (fun r => ?_) r
    rw [hw r, (hb r).2, show (201#32 : BitVec 32).toInt = 201 from rfl]
    have := (hb r).1
    omega
  refine (pick15_at _ _ _ r j).trans ?_
  rw [hin]
  refine (if_pos rfl).trans ?_
  refine (Lookup.rows_at (N := 202) (C := 15) (B := 16384) (by decide) _ _ _ r j).trans ?_
  have hn : (wrapped 202#32 (clipped 200#32 x) (ix2 r 0)).toInt.toNat = (clip 200#32 (x (ix1 r))).toNat := by
    rw [hw r, (hb r).2]; rfl
  have hm : min (wrapped 202#32 (clipped 200#32 x) (ix2 r 0)).toInt.toNat (202 - 1) = (clip 200#32 (x (ix1 r))).toNat := by
    rw [hn]; have := (hb r).1; omega
  refine Eq.trans (congrArg (fun q => FloatOps.ofBits (F := Ideal) .f32 (lit0 q))
    (a₂ := ⟨(⟨min (wrapped 202#32 (clipped 200#32 x) (ix2 r 0)).toInt.toNat (202 - 1), by omega⟩ : Fin 202).val * 15 + j.val, by
      have := j.isLt; have := (hb r).1; dsimp only; omega⟩)
    (Fin.ext (Shape.rowMajor_val_two _))) ?_
  rw [lit0_at]
  exact entry_hot _ _ _ hm ((hb r).1.trans (by decide)) (lt_of_lt_of_le j.isLt (by decide))

/-- A choice made row by row, at an entry. -/
theorem pick8_at (u : IVec S16384 1) (v w : FVec Ideal S16384x8 .f32) (r : Fin 16384) (j : Fin 8) :
    select (broadcastInDim S16384x8 ![0] bcast_S16384_S16384x8_0 u) v w (ix2 r j) = Scalar.select (u (ix1 r)) (v (ix2 r j)) (w (ix2 r j)) := by
  pointwise

/-- The rows of the second table the clipped counts name. -/
abbrev still (x : IVec S16384 32) : FVec Ideal S16384x8 .f32 :=
  select (broadcastInDim S16384x8 ![0] bcast_S16384_S16384x8_0 (inside 52#32 (wrapped 53#32 (clipped 50#32 x))))
    (Host.gather gather_S53x8_S16384x1_S16384x8_1_0_n_n_0_1_18
      (fun i => FloatOps.ofBits .f32 (lit1 (S53x8.rowMajor i))) (wrapped 53#32 (clipped 50#32 x)))
    (broadcastInDim S16384x8 ![] bcast_S_S16384x8 (constant (F := Ideal) S_ .f32 0x7FC00000#32))

/-- The looked-up row is the one-hot row of the clipped count's integer square root. -/
theorem still_at (x : IVec S16384 32) (r : Fin 16384) (j : Fin 8) :
    still x (ix2 r j) = hot (root (clip 50#32 (x (ix1 r)))) (BitVec.ofNat 32 j.val) := by
  have hb : ∀ r : Fin 16384, (clip 50#32 (x (ix1 r))).toNat ≤ 50 ∧ (clip 50#32 (x (ix1 r))).toInt = ((clip 50#32 (x (ix1 r))).toNat : Int) :=
    fun r => clip_toNat 50#32 _ (by decide)
  have hw : ∀ r : Fin 16384, wrapped 53#32 (clipped 50#32 x) (ix2 r 0) = clip 50#32 (x (ix1 r)) :=
    fun r => wrapped_at 53#32 (clipped 50#32 x) r (show (clip 50#32 (x (ix1 r))).toNat < 2 ^ 31 by have := (hb r).1; omega)
  have hin : inside 52#32 (wrapped 53#32 (clipped 50#32 x)) (ix1 r) = 1#1 := by
    refine inside_at _ _ (fun r => ?_) r
    rw [hw r, (hb r).2, show (52#32 : BitVec 32).toInt = 52 from rfl]
    have := (hb r).1
    omega
  refine (pick8_at _ _ _ r j).trans ?_
  rw [hin]
  refine (if_pos rfl).trans ?_
  refine (Lookup.rows_at (N := 53) (C := 8) (B := 16384) (by decide) _ _ _ r j).trans ?_
  have hn : (wrapped 53#32 (clipped 50#32 x) (ix2 r 0)).toInt.toNat = (clip 50#32 (x (ix1 r))).toNat := by
    rw [hw r, (hb r).2]; rfl
  have hm : min (wrapped 53#32 (clipped 50#32 x) (ix2 r 0)).toInt.toNat (53 - 1) = (clip 50#32 (x (ix1 r))).toNat := by
    rw [hn]; have := (hb r).1; omega
  refine Eq.trans (congrArg (fun q => FloatOps.ofBits (F := Ideal) .f32 (lit1 q))
    (a₂ := ⟨(⟨min (wrapped 53#32 (clipped 50#32 x) (ix2 r 0)).toInt.toNat (53 - 1), by omega⟩ : Fin 53).val * 8 + j.val, by
      have := j.isLt; have := (hb r).1; dsimp only; omega⟩)
    (Fin.ext (Shape.rowMajor_val_two _))) ?_
  rw [lit1_at]
  exact entry_hot _ _ _ hm ((hb r).1.trans (by decide)) (lt_of_lt_of_le j.isLt (by decide))

/-- The clipped counts divided by 200, as one column. -/
abbrev share200 (x : IVec S16384 32) : FVec Ideal S16384x1 .f32 :=
  id (broadcastInDim S16384x1 ![0] bcast_S16384_S16384x1_0
    (Host.divf (F := Ideal) (φ := .f32) (sitofp .f32 (clipped 200#32 x)) (broadcastInDim S16384 ![] bcast_S_S16384 (constant S_ .f32 0x43480000#32))))

/-- The column at a row is the clipped count's share of 200. -/
theorem share200_at (x : IVec S16384 32) (r : Fin 16384) : share200 x (ix2 r 0) = share 200 (clip 200#32 (x (ix1 r))) := by
  have e : share200 x (ix2 r 0) = Ideal.div (((clip 200#32 (x (ix1 r))).toInt : ℝ) : EReal) (Ideal.ofBits .f32 0x43480000#32) := by
    dsimp only [share200, id]
    generalize hy : clipped 200#32 x = y
    refine Eq.trans (b := Ideal.div (((y (ix1 r)).toInt : ℝ) : EReal) (Ideal.ofBits .f32 0x43480000#32)) (by pointwise; rfl) ?_
    rw [← hy]
    rfl
  have k : Ideal.ofBits .f32 0x43480000#32 = ((200 : ℝ) : EReal) := by
    simp [Ideal.ofBits, Ideal.ieee, -EReal.coe_mul]; norm_num
  rw [e, k, Ideal.div_coe (by norm_num), ← EReal.coe_mul]
  unfold share
  rw [one_div]
  norm_cast

/-- The clipped counts divided by 50, as one column. -/
abbrev share50 (x : IVec S16384 32) : FVec Ideal S16384x1 .f32 :=
  id (broadcastInDim S16384x1 ![0] bcast_S16384_S16384x1_0
    (Host.divf (F := Ideal) (φ := .f32) (sitofp .f32 (clipped 50#32 x)) (broadcastInDim S16384 ![] bcast_S_S16384 (constant S_ .f32 0x42480000#32))))

/-- The column at a row is the clipped count's share of 50. -/
theorem share50_at (x : IVec S16384 32) (r : Fin 16384) : share50 x (ix2 r 0) = share 50 (clip 50#32 (x (ix1 r))) := by
  have e : share50 x (ix2 r 0) = Ideal.div (((clip 50#32 (x (ix1 r))).toInt : ℝ) : EReal) (Ideal.ofBits .f32 0x42480000#32) := by
    dsimp only [share50, id]
    generalize hy : clipped 50#32 x = y
    refine Eq.trans (b := Ideal.div (((y (ix1 r)).toInt : ℝ) : EReal) (Ideal.ofBits .f32 0x42480000#32)) (by pointwise; rfl) ?_
    rw [← hy]
    rfl
  have k : Ideal.ofBits .f32 0x42480000#32 = ((50 : ℝ) : EReal) := by
    simp [Ideal.ofBits, Ideal.ieee, -EReal.coe_mul]; norm_num
  rw [e, k, Ideal.div_coe (by norm_num), ← EReal.coe_mul]
  unfold share
  rw [one_div]
  norm_cast

end Cert.Proof.Turns

end
-- ==== Proof.Counts.lean ====
/-
  The reference's small counts: pairs of looked-up rows of the identity, laid side by side.
-/
module

public import proofs.«01_k».proof.Proof.Lookup
public import proofs.«01_k».proof.Proof.Spec
public import Idealize.ShloMosaic.Lib.ReduceAll
public import Idealize.ShloMosaic.Lib.Affine
public import Idealize.ShloMosaic.Lib.Routing.OpsPair
public import Idealize.ShloMosaic.Lib.IdealHost

@[expose] public section

set_option maxRecDepth 16384

noncomputable section

namespace Cert.Proof.Counts

open Idealize.ShloMosaic Cert.ReferenceIdeal Cert.ReferenceIdeal.Gen Cert.Proof.Spec

/-- The row numbers: a negative word counts from the end of seven rows. -/
abbrev wrapped (x : IVec S16384x2 32) : IVec S16384x2x1 32 :=
  broadcastInDim S16384x2x1 ![0, 1] bcast_S16384x2_S16384x2x1_0_1
    (select (cmpi .slt x (broadcastInDim S16384x2 ![] bcast_S_S16384x2 (constantI S_ 32 0#32)))
      (addi x (broadcastInDim S16384x2 ![] bcast_S_S16384x2 (constantI S_ 32 7#32))) x)

/-- Whether each row number lies in `0 … 6`. -/
abbrev inside (I : IVec S16384x2x1 32) : IVec S16384x2 1 :=
  Host.reduce IntOp.andi
    (andi (cmpi .sge I (broadcastInDim S16384x2x1 ![] bcast_S_S16384x2x1 (constantI S_ 32 0#32)))
      (cmpi .sle I (broadcastInDim S16384x2x1 ![0, 1, 2] bcast_S1x1x1_S16384x2x1_0_1_2
        (broadcastInDim S1x1x1 ![2] bcast_S1_S1x1x1_2 (constantI S1 32 6#32)))))
    (constantI S_ 1 1#1) reducesTo_S16384x2x1_S16384x2_d2 h_S_

/-- The identity matrix of seven rows. -/
abbrev eye : FVec Ideal S7x7 .f32 :=
  uitofp .f32 (cmpi .eq (addi (iotaInDim S7x7 32 0) (broadcastInDim S7x7 ![] bcast_S_S7x7 (constantI S_ 32 0#32))) (iotaInDim S7x7 32 1))

/-- The rows of the identity the counts name. -/
abbrev taken (x : IVec S16384x2 32) : FVec Ideal S16384x2x7 .f32 :=
  select (broadcastInDim S16384x2x7 ![0, 1] bcast_S16384x2_S16384x2x7_0_1 (inside (wrapped x)))
    (Host.gather gather_S7x7_S16384x2x1_S16384x2x7_2_0_n_n_0_2_17 eye (wrapped x))
    (broadcastInDim S16384x2x7 ![] bcast_S_S16384x2x7 (constant (F := Ideal) S_ .f32 0x7FC00000#32))

/-- Each pair of rows laid side by side. -/
abbrev pair (x : IVec S16384x2 32) : FVec Ideal S16384x14 .f32 := shapeCast _ (taken x) shapeCasts_S16384x2x7_S16384x14

/-- A row number that is not negative is the word itself. -/
theorem wrapped_at (x : IVec S16384x2 32) (r : Fin 16384) (p : Fin 2) (h : (x (ix2 r p)).toNat < 7) :
    wrapped x (ix3 r p 0) = x (ix2 r p) := by
  have e : wrapped x (ix3 r p 0) = Scalar.select (IntOp.cmpi .slt (x (ix2 r p)) 0#32) (IntOp.addi (x (ix2 r p)) 7#32) (x (ix2 r p)) := by
    pointwise [wrapped]
  exact e.trans (Routing.wrap_of_lt _ _ (h.trans (by decide)))

/-- A word below seven, as a signed number. -/
theorem toInt_small (x : BitVec 32) (h : x.toNat < 7) : x.toInt = (x.toNat : Int) := by
  rw [BitVec.toInt_eq_toNat_cond, if_pos (by omega)]

/-- Row numbers that all lie in `0 … 6` are all found inside. -/
theorem inside_at (I : IVec S16384x2x1 32) (h : ∀ (r : Fin 16384) (p : Fin 2), (I (ix3 r p 0)).toNat < 7)
    (r : Fin 16384) (p : Fin 2) : inside I (ix2 r p) = 1#1 := by
  refine Host.reduce_andi_one _ _ _ _ _ rfl fun i => ?_
  idx_vars i
  obtain rfl : i2 = 0 := Subsingleton.elim _ _
  have h₀ := h i0 i1
  have hi := toInt_small _ h₀
  have e : andi (cmpi .sge I (broadcastInDim S16384x2x1 ![] bcast_S_S16384x2x1 (constantI S_ 32 0#32)))
      (cmpi .sle I (broadcastInDim S16384x2x1 ![0, 1, 2] bcast_S1x1x1_S16384x2x1_0_1_2
        (broadcastInDim S1x1x1 ![2] bcast_S1_S1x1x1_2 (constantI S1 32 6#32)))) (ix3 i0 i1 0)
      = IntOp.andi (IntOp.cmpi .sge (I (ix3 i0 i1 0)) 0#32) (IntOp.cmpi .sle (I (ix3 i0 i1 0)) 6#32) := by
    pointwise
  rw [e]
  have a₀ : IntOp.cmpi .sge (I (ix3 i0 i1 0)) 0#32 = 1#1 := by
    simp only [IntOp.cmpi, BitVec.sle, BitVec.toInt_zero, decide_eq_true (show (0 : Int) ≤ (I (ix3 i0 i1 0)).toInt by omega)]; rfl
  have a₁ : IntOp.cmpi .sle (I (ix3 i0 i1 0)) 6#32 = 1#1 := by
    simp only [IntOp.cmpi, BitVec.sle, decide_eq_true (show (I (ix3 i0 i1 0)).toInt ≤ (6#32 : BitVec 32).toInt by
      rw [hi, show (6#32 : BitVec 32).toInt = 6 from rfl]; omega)]; rfl
  rw [a₀, a₁]
  rfl

/-- The identity at an entry. -/
theorem eye_at (i j : Fin 7) : eye (ix2 i j) = if i = j then 1 else 0 := by
  have e : eye (ix2 i j) = FloatOps.uitofp .f32 (IntOp.cmpi .eq (BitVec.ofNat 32 i.val + 0#32) (BitVec.ofNat 32 j.val)) := rfl
  rw [e]
  have k : ∀ i j : Fin 7, IntOp.cmpi .eq (BitVec.ofNat 32 i.val + 0#32) (BitVec.ofNat 32 j.val) = if i = j then 1#1 else 0#1 := by
    decide
  rw [k]
  show (((if i = j then 1#1 else 0#1 : BitVec 1).toNat : ℝ) : EReal) = _
  split_ifs <;> simp

/-- A choice made for each pair, at an entry. -/
theorem pick_at (u : IVec S16384x2 1) (v w : FVec Ideal S16384x2x7 .f32) (r : Fin 16384) (p : Fin 2) (j : Fin 7) :
    select (broadcastInDim S16384x2x7 ![0, 1] bcast_S16384x2_S16384x2x7_0_1 u) v w (ix3 r p j)
      = Scalar.select (u (ix2 r p)) (v (ix3 r p j)) (w (ix3 r p j)) := by
  pointwise

/-- A taken row is the one-hot row of its count. -/
theorem taken_at (x : IVec S16384x2 32) (h : ∀ (r : Fin 16384) (p : Fin 2), (x (ix2 r p)).toNat < 7)
    (r : Fin 16384) (p : Fin 2) (j : Fin 7) : taken x (ix3 r p j) = hot (x (ix2 r p)) (BitVec.ofNat 32 j.val) := by
  have hw : ∀ r p, wrapped x (ix3 r p 0) = x (ix2 r p) := fun r p => wrapped_at x r p (h r p)
  have hin : inside (wrapped x) (ix2 r p) = 1#1 := inside_at _ (fun r p => by rw [hw]; exact h r p) r p
  refine (pick_at _ _ _ r p j).trans ?_
  rw [hin]
  refine (if_pos rfl).trans ?_
  refine (Lookup.pair_at (N := 7) (C := 7) (B := 16384) (D := 2) (by decide) _ _ _ r p j).trans ?_
  have hx := h r p
  have hm : min (wrapped x (ix3 r p 0)).toInt.toNat (7 - 1) = (x (ix2 r p)).toNat := by
    rw [hw, toInt_small _ hx, Int.toNat_natCast]; omega
  rw [eye_at]
  unfold hot
  refine if_congr ?_ rfl rfl
  rw [Fin.ext_iff]
  show min (wrapped x (ix3 r p 0)).toInt.toNat (7 - 1) = j.val ↔ _
  rw [hm]
  constructor
  · intro q
    rw [← q, BitVec.ofNat_toNat, BitVec.setWidth_eq]
  · intro q
    rw [q, BitVec.toNat_ofNat, Nat.mod_eq_of_lt (by omega)]

/-- A pair of rows laid side by side, at an entry. -/
theorem pair_at (x : IVec S16384x2 32) (r : Fin 16384) (p : Fin 2) (j : Fin 7) :
    pair x (ix2 r ⟨p.val * 7 + j.val, by omega⟩) = taken x (ix3 r p j) := by
  dsimp only [pair]
  generalize taken x = y
  refine shapeCast_apply _ _ _ _ ?_
  rw [Shape.rowMajor_val_three, Shape.rowMajor_val_two]
  show (r.val * 2 + p.val) * 7 + j.val = r.val * 14 + (p.val * 7 + j.val)
  omega

end Cert.Proof.Counts

end
-- ==== Proof.Reference.lean ====
/-
  The reference's result at an entry: the encoder of the row's features.
-/
module

public import proofs.«01_k».proof.Proof.Turns
public import proofs.«01_k».proof.Proof.Counts
public import proofs.«01_k».proof.Proof.Cat
public import proofs.«01_k».proof.Proof.Gen.ReferenceIdeal.Run

@[expose] public section

set_option maxRecDepth 16384

noncomputable section

namespace Cert.Proof.Reference

open Idealize.ShloMosaic Cert.ReferenceIdeal Cert.ReferenceIdeal.Gen Cert.Proof.Spec Cert.Proof.Turns
  Cert.Proof.Counts

section Rows

variable (a0 a1 : IVec S16384 32) (a2 : FVec Ideal S16384x3 .f32) (a3 a4 : FVec Ideal S16384x4 .f32) (a5 : FVec Ideal S16384x6 .f32)
  (a6 : FVec Ideal S16384x5 .f32) (a8 a9 a10 : IVec S16384x2 32)

/-- The twelve groups of columns. -/
abbrev groups (v0 : FVec Ideal S16384x15 .f32) (v1 : FVec Ideal S16384x8 .f32) (v2 v3 : FVec Ideal S16384x1 .f32)
    (v4 : FVec Ideal S16384x3 .f32) (v5 : FVec Ideal S16384x4 .f32) (v6 : FVec Ideal S16384x6 .f32) (v7 : FVec Ideal S16384x5 .f32)
    (v8 v9 v10 : FVec Ideal S16384x14 .f32) (v11 : FVec Ideal S16384x4 .f32) : List ((s : Shape) × FVec Ideal s .f32) :=
  [⟨S16384x15, v0⟩, ⟨S16384x8, v1⟩, ⟨S16384x1, v2⟩, ⟨S16384x1, v3⟩, ⟨S16384x3, v4⟩, ⟨S16384x4, v5⟩, ⟨S16384x6, v6⟩, ⟨S16384x5, v7⟩, ⟨S16384x14, v8⟩, ⟨S16384x14, v9⟩, ⟨S16384x14, v10⟩, ⟨S16384x4, v11⟩]

/-- The groups laid side by side. -/
abbrev beside (v0 : FVec Ideal S16384x15 .f32) (v1 : FVec Ideal S16384x8 .f32) (v2 v3 : FVec Ideal S16384x1 .f32)
    (v4 : FVec Ideal S16384x3 .f32) (v5 : FVec Ideal S16384x4 .f32) (v6 : FVec Ideal S16384x6 .f32) (v7 : FVec Ideal S16384x5 .f32)
    (v8 v9 v10 : FVec Ideal S16384x14 .f32) (v11 : FVec Ideal S16384x4 .f32) : FVec Ideal S16384x89 .f32 :=
  concatenate S16384x89 1 (groups v0 v1 v2 v3 v4 v5 v6 v7 v8 v9 v10 v11) concatenates_S16384x15_S16384x8_S16384x1_S16384x1_S16384x3_S16384x4_S16384x6_S16384x5_S16384x14_S16384x14_S16384x14_S16384x4_S16384x89_d1

/-- The groups laid side by side, at an entry: each fourteen columns are two groups of seven. -/
theorem beside_at (v0 : FVec Ideal S16384x15 .f32) (v1 : FVec Ideal S16384x8 .f32) (v2 v3 : FVec Ideal S16384x1 .f32)
    (v4 : FVec Ideal S16384x3 .f32) (v5 : FVec Ideal S16384x4 .f32) (v6 : FVec Ideal S16384x6 .f32) (v7 : FVec Ideal S16384x5 .f32)
    (v8 v9 v10 : FVec Ideal S16384x14 .f32) (v11 : FVec Ideal S16384x4 .f32) (r : Fin 16384) (j : Fin 89) :
    beside v0 v1 v2 v3 v4 v5 v6 v7 v8 v9 v10 v11 (ix2 r j)
      = row (fun i => v0 (ix2 r i)) (fun i => v1 (ix2 r i)) (v2 (ix2 r 0)) (v3 (ix2 r 0)) (fun i => v4 (ix2 r i)) (fun i => v5 (ix2 r i))
        (fun i => v6 (ix2 r i)) (fun i => v7 (ix2 r i))
        (fun i : Fin 7 => v8 (ix2 r ⟨(0 : Fin 2).val * 7 + i.val, by show 0 * 7 + i.val < 14; omega⟩)) (fun i : Fin 7 => v8 (ix2 r ⟨(1 : Fin 2).val * 7 + i.val, by show 1 * 7 + i.val < 14; omega⟩))
        (fun i : Fin 7 => v9 (ix2 r ⟨(0 : Fin 2).val * 7 + i.val, by show 0 * 7 + i.val < 14; omega⟩)) (fun i : Fin 7 => v9 (ix2 r ⟨(1 : Fin 2).val * 7 + i.val, by show 1 * 7 + i.val < 14; omega⟩))
        (fun i : Fin 7 => v10 (ix2 r ⟨(0 : Fin 2).val * 7 + i.val, by show 0 * 7 + i.val < 14; omega⟩)) (fun i : Fin 7 => v10 (ix2 r ⟨(1 : Fin 2).val * 7 + i.val, by show 1 * 7 + i.val < 14; omega⟩))
        (fun i => v11 (ix2 r i)) j := by
  refine eq_row (fun j => beside v0 v1 v2 v3 v4 v5 v6 v7 v8 v9 v10 v11 (ix2 r j))
    (fun i => Cat.cat_at (groups v0 v1 v2 v3 v4 v5 v6 v7 v8 v9 v10 v11) _ r _ 0 (show 0 < 12 by decide) v0 rfl 0 (by simp) i rfl)
    (fun i => Cat.cat_at (groups v0 v1 v2 v3 v4 v5 v6 v7 v8 v9 v10 v11) _ r _ 1 (show 1 < 12 by decide) v1 rfl 15 (by simp) i rfl)
    (Cat.cat_at (groups v0 v1 v2 v3 v4 v5 v6 v7 v8 v9 v10 v11) _ r _ 2 (show 2 < 12 by decide) v2 rfl 23 (by simp) 0 rfl)
    (Cat.cat_at (groups v0 v1 v2 v3 v4 v5 v6 v7 v8 v9 v10 v11) _ r _ 3 (show 3 < 12 by decide) v3 rfl 24 (by simp) 0 rfl)
    (fun i => Cat.cat_at (groups v0 v1 v2 v3 v4 v5 v6 v7 v8 v9 v10 v11) _ r _ 4 (show 4 < 12 by decide) v4 rfl 25 (by simp) i rfl)
    (fun i => Cat.cat_at (groups v0 v1 v2 v3 v4 v5 v6 v7 v8 v9 v10 v11) _ r _ 5 (show 5 < 12 by decide) v5 rfl 28 (by simp) i rfl)
    (fun i => Cat.cat_at (groups v0 v1 v2 v3 v4 v5 v6 v7 v8 v9 v10 v11) _ r _ 6 (show 6 < 12 by decide) v6 rfl 32 (by simp) i rfl)
    (fun i => Cat.cat_at (groups v0 v1 v2 v3 v4 v5 v6 v7 v8 v9 v10 v11) _ r _ 7 (show 7 < 12 by decide) v7 rfl 38 (by simp) i rfl)
    (fun i => Cat.cat_at (groups v0 v1 v2 v3 v4 v5 v6 v7 v8 v9 v10 v11) _ r _ 8 (show 8 < 12 by decide) v8 rfl 43 (by simp) ⟨(0 : Fin 2).val * 7 + i.val, by show 0 * 7 + i.val < 14; omega⟩
      (by show 43 + (0 * 7 + i.val) = 43 + i.val; omega))
    (fun i => Cat.cat_at (groups v0 v1 v2 v3 v4 v5 v6 v7 v8 v9 v10 v11) _ r _ 8 (show 8 < 12 by decide) v8 rfl 43 (by simp) ⟨(1 : Fin 2).val * 7 + i.val, by show 1 * 7 + i.val < 14; omega⟩
      (by show 43 + (1 * 7 + i.val) = 50 + i.val; omega))
    (fun i => Cat.cat_at (groups v0 v1 v2 v3 v4 v5 v6 v7 v8 v9 v10 v11) _ r _ 9 (show 9 < 12 by decide) v9 rfl 57 (by simp) ⟨(0 : Fin 2).val * 7 + i.val, by show 0 * 7 + i.val < 14; omega⟩
      (by show 57 + (0 * 7 + i.val) = 57 + i.val; omega))
    (fun i => Cat.cat_at (groups v0 v1 v2 v3 v4 v5 v6 v7 v8 v9 v10 v11) _ r _ 9 (show 9 < 12 by decide) v9 rfl 57 (by simp) ⟨(1 : Fin 2).val * 7 + i.val, by show 1 * 7 + i.val < 14; omega⟩
      (by show 57 + (1 * 7 + i.val) = 64 + i.val; omega))
    (fun i => Cat.cat_at (groups v0 v1 v2 v3 v4 v5 v6 v7 v8 v9 v10 v11) _ r _ 10 (show 10 < 12 by decide) v10 rfl 71 (by simp) ⟨(0 : Fin 2).val * 7 + i.val, by show 0 * 7 + i.val < 14; omega⟩
      (by show 71 + (0 * 7 + i.val) = 71 + i.val; omega))
    (fun i => Cat.cat_at (groups v0 v1 v2 v3 v4 v5 v6 v7 v8 v9 v10 v11) _ r _ 10 (show 10 < 12 by decide) v10 rfl 71 (by simp) ⟨(1 : Fin 2).val * 7 + i.val, by show 1 * 7 + i.val < 14; omega⟩
      (by show 71 + (1 * 7 + i.val) = 78 + i.val; omega))
    (fun i => Cat.cat_at (groups v0 v1 v2 v3 v4 v5 v6 v7 v8 v9 v10 v11) _ r _ 11 (show 11 < 12 by decide) v11 rfl 85 (by simp) i rfl)
    j

/-- The features of every row. -/
abbrev features : FVec Ideal S16384x89 .f32 := beside (turn a0) (still a1) (share200 a0) (share50 a1) a2 a3 a5 a6 (pair a8) (pair a9) (pair a10) a4

/-- The features at a row are the row's features. -/
theorem features_at (h8 : ∀ (r : Fin 16384) (p : Fin 2), (a8 (ix2 r p)).toNat < 7) (h9 : ∀ (r : Fin 16384) (p : Fin 2), (a9 (ix2 r p)).toNat < 7)
    (h10 : ∀ (r : Fin 16384) (p : Fin 2), (a10 (ix2 r p)).toNat < 7) (r : Fin 16384) (j : Fin 89) :
    features a0 a1 a2 a3 a4 a5 a6 a8 a9 a10 (ix2 r j)
      = feature (a0 (ix1 r)) (a1 (ix1 r)) (fun i => a2 (ix2 r i)) (fun i => a3 (ix2 r i)) (fun i => a5 (ix2 r i)) (fun i => a6 (ix2 r i))
          (fun i => a8 (ix2 r i)) (fun i => a9 (ix2 r i)) (fun i => a10 (ix2 r i)) (fun i => a4 (ix2 r i)) j := by
  refine (beside_at _ _ _ _ _ _ _ _ _ _ _ _ r j).trans ?_
  unfold feature
  have k8 : ∀ (p : Fin 2) (i : Fin 7), pair a8 (ix2 r ⟨p.val * 7 + i.val, by omega⟩) = hot (a8 (ix2 r p)) (BitVec.ofNat 32 i.val) :=
    fun p i => (pair_at a8 r p i).trans (taken_at a8 h8 r p i)
  have k9 : ∀ (p : Fin 2) (i : Fin 7), pair a9 (ix2 r ⟨p.val * 7 + i.val, by omega⟩) = hot (a9 (ix2 r p)) (BitVec.ofNat 32 i.val) :=
    fun p i => (pair_at a9 r p i).trans (taken_at a9 h9 r p i)
  have k10 : ∀ (p : Fin 2) (i : Fin 7), pair a10 (ix2 r ⟨p.val * 7 + i.val, by omega⟩) = hot (a10 (ix2 r p)) (BitVec.ofNat 32 i.val) :=
    fun p i => (pair_at a10 r p i).trans (taken_at a10 h10 r p i)
  rw [funext (turn_at a0 r), funext (still_at a1 r), share200_at, share50_at, funext (k8 0), funext (k8 1), funext (k9 0), funext (k9 1),
    funext (k10 0), funext (k10 1)]

end Rows

/-- The two layers at an entry. -/
theorem layers_at (x : FVec Ideal S16384x89 .f32) (w₁ : FVec Ideal S89x128 .f32) (b₁ : FVec Ideal S128 .f32) (w₂ : FVec Ideal S128x128 .f32)
    (b₂ : FVec Ideal S128 .f32) (r : Fin 16384) (d : Fin 128) :
    addf (F := Ideal) (φ := .f32) (Host.dotGeneral (φ₁ := .f32) (φ₂ := .f32) dot_S16384x128_S128x128_S16384x128_1_0_0_1_n_n none
        (maximumf (F := Ideal) (φ := .f32) (addf (F := Ideal) (φ := .f32) (Host.dotGeneral (φ₁ := .f32) (φ₂ := .f32) dot_S16384x89_S89x128_S16384x128_1_0_0_1_n_n none x w₁)
          (broadcastInDim S16384x128 ![0, 1] bcast_S1x128_S16384x128_0_1 (broadcastInDim S1x128 ![1] bcast_S128_S1x128_1 b₁)))
          (broadcastInDim S16384x128 ![] bcast_S_S16384x128 (constant S_ .f32 0x00000000#32))) w₂)
        (broadcastInDim S16384x128 ![0, 1] bcast_S1x128_S16384x128_0_1 (broadcastInDim S1x128 ![1] bcast_S128_S1x128_1 b₂)) (ix2 r d)
      = encode (fun j => x (ix2 r j)) (fun j k => w₁ (ix2 j k)) (fun k => b₁ (ix1 k)) (fun k l => w₂ (ix2 k l)) (fun k => b₂ (ix1 k)) d := by
  pointwise [encode]

/-- The reference's result array: every row is the encoder of its features. -/
theorem result_at (m : (ℓ : Loc nD τ sig) → Buf (Elt Ideal) ℓ) (c : Dev nD)
    (h8 : ∀ (r : Fin 16384) (p : Fin 2), ((m ((c.tc : Thread nD τ).loc main_arg8)) (ix2 r p) : BitVec 32).toNat < 7)
    (h9 : ∀ (r : Fin 16384) (p : Fin 2), ((m ((c.tc : Thread nD τ).loc main_arg9)) (ix2 r p) : BitVec 32).toNat < 7)
    (h10 : ∀ (r : Fin 16384) (p : Fin 2), ((m ((c.tc : Thread nD τ).loc main_arg10)) (ix2 r p) : BitVec 32).toNat < 7) (r : Fin 16384) (d : Fin 128) :
    (Value.res_out0 (F := Ideal) m c : FVec Ideal S16384x128 .f32) (ix2 r d)
      = whole (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) r d := by
  refine Eq.trans (layers_at (features (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))
    (m ((c.tc : Thread nD τ).loc main_arg9)) (m ((c.tc : Thread nD τ).loc main_arg10))) (m ((c.tc : Thread nD τ).loc main_arg11)) (m ((c.tc : Thread nD τ).loc main_arg12)) (m ((c.tc : Thread nD τ).loc main_arg13)) (m ((c.tc : Thread nD τ).loc main_arg14)) r d) ?_
  unfold whole
  rw [funext (features_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))
    (m ((c.tc : Thread nD τ).loc main_arg9)) (m ((c.tc : Thread nD τ).loc main_arg10)) h8 h9 h10 r)]

end Cert.Proof.Reference

end
-- ==== Proof.Bounds.lean ====
/-
  What the precondition says: the six small counts of every row lie in `0 … 6`.
-/
module

public import proofs.«01_k».proof.Defs
public import proofs.«01_k».proof.Proof.Gen.Pre_in_range
public import Idealize.ShloMosaic.Lib.Pointwise
public import Idealize.ShloMosaic.Lib.ReduceAll
public import Idealize.ShloMosaic.Lib.Affine

@[expose] public section

set_option maxRecDepth 16384

noncomputable section

namespace Cert.Proof.Bounds

open Idealize.ShloMosaic Cert.Pre_in_range Cert.Pre_in_range.Gen

attribute [local instance] Cert.Pre_in_range.Gen.facts

/-- A word that is not below zero and is below seven, as a signed number, is a natural number below seven. -/
theorem small (x : BitVec 32) (e : IntOp.andi (IntOp.cmpi .sge x 0#32) (IntOp.cmpi .slt x 7#32) = 1#1) : x.toNat < 7 := by
  obtain ⟨a, b⟩ := IntOp.andi_eq_one.1 e
  have ha : 0 ≤ x.toInt := by
    by_contra h
    have : IntOp.cmpi .sge x 0#32 = 0#1 := by
      simp only [IntOp.cmpi, BitVec.sle, BitVec.toInt_zero, decide_eq_false h]; rfl
    rw [this] at a
    exact absurd a (by decide)
  have hb : x.toInt < 7 := by
    by_contra h
    have : IntOp.cmpi .slt x 7#32 = 0#1 := by
      simp only [IntOp.cmpi, BitVec.slt, decide_eq_false (show ¬ x.toInt < (7#32 : BitVec 32).toInt from h)]; rfl
    rw [this] at b
    exact absurd b (by decide)
  have := BitVec.toInt_eq_toNat_cond x
  have := x.isLt
  split_ifs at * <;> omega

/-- A reduction by `and` over all the counts that is one bounds each of them. -/
theorem all_small (x : IVec S16384x2 32)
    (e : Host.reduce IntOp.andi (andi (cmpi .sge x (broadcastInDim S16384x2 ![] Facts.bcast_S_S16384x2 (constantI S_ 32 0#32)))
        (cmpi .slt x (broadcastInDim S16384x2 ![] Facts.bcast_S_S16384x2 (constantI S_ 32 7#32)))) (constantI S_ 1 1#1)
        Facts.reducesTo_S16384x2_S_d0_1 Facts.h_S_ ix0 = 1#1)
    (r : Fin 16384) (p : Fin 2) : (x (ix2 r p)).toNat < 7 :=
  haveI : Subsingleton S_.Idx := ⟨fun a b => funext fun k => k.elim0⟩
  small _ (Host.reduce_andi_all _ _ _ _ _ e (ix2 r p))

/-- The precondition, decoded. -/
theorem decode (a0 a1 : IVec S16384 32) (a2 : FVec Ideal S16384x3 .f32) (a3 a4 : FVec Ideal S16384x4 .f32) (a5 : FVec Ideal S16384x6 .f32)
    (a6 : FVec Ideal S16384x5 .f32) (a7 : FVec Ideal S16384x2 .f32) (a8 a9 a10 : IVec S16384x2 32) (a11 : FVec Ideal S89x128 .f32)
    (a12 : FVec Ideal S128 .f32) (a13 : FVec Ideal S128x128 .f32) (a14 : FVec Ideal S128 .f32)
    (h : fn (F := Ideal) a0 a1 a2 a3 a4 a5 a6 a7 a8 a9 a10 a11 a12 a13 a14 = fun _ => 1#1) :
    (∀ (r : Fin 16384) (p : Fin 2), (a8 (ix2 r p)).toNat < 7) ∧ (∀ (r : Fin 16384) (p : Fin 2), (a9 (ix2 r p)).toNat < 7)
      ∧ ∀ (r : Fin 16384) (p : Fin 2), (a10 (ix2 r p)).toNat < 7 := by
  have e := congrFun h ix0
  dsimp only [fn, fn_part1] at e
  obtain ⟨e, e10⟩ := IntOp.andi_eq_one.1 e
  obtain ⟨e8, e9⟩ := IntOp.andi_eq_one.1 e
  exact ⟨all_small a8 e8, all_small a9 e9, all_small a10 e10⟩

end Cert.Proof.Bounds

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Array
public import proofs.«01_k».proof.Proof.Reference
public import proofs.«01_k».proof.Proof.Bounds
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

/-- The kernel runs, leaves its arguments as they were and every counter at zero. -/
theorem frame_p : Cert.quiescent_Kernel := fun m g _ => Cert.Kernel.Gen.frame m g

/-- The kernel with its constants named runs, leaves its arguments as they were and every counter at zero. -/
theorem frame_pi : Cert.quiescent_KernelIdeal := fun m g _ => Cert.KernelIdeal.Gen.frame m g

/-- The reference runs, leaves its arguments as they were and every counter at zero: it declares no counter. -/
theorem frame_ri : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- Each named constant is the real it is said to be, near the bits the kernel spells. -/
theorem named : Cert.preserves_Kernel_KernelIdeal :=
  ⟨IdealRules.named_const.statement Cert.KernelIdeal.κ "per_turn" .f32 0x3BA3D70A#32 ((200⁻¹ : ℝ) : EReal) rfl,
    IdealRules.named_const.statement Cert.KernelIdeal.κ "per_still" .f32 0x3CA3D70A#32 ((50⁻¹ : ℝ) : EReal) rfl⟩

/-- The kernel's result array is the reference's. -/
theorem equal : Cert.algebraic_KernelIdeal_ReferenceIdeal_pre_in_range := by
  intro m g m' g' hpre hag
  refine ⟨fun c => Array.value m c, ?_, ?_⟩
  · exact (θ_run (Cert.KernelIdeal.defs (F := Ideal)) _ _).mono (fun r h c => ⟨(h c).1.trans (Array.final m c), (h c).2⟩)
      (Cert.KernelIdeal.Value.run_blocks (F := Ideal) m g)
  · refine (θ_run (Cert.ReferenceIdeal.defs (F := Ideal)) _ _).mono (fun r h c => ⟨(h c).1.trans ?_, (h c).2⟩)
      (Cert.ReferenceIdeal.Value.run (F := Ideal) m' g')
    obtain ⟨b8, b9, b10⟩ := Bounds.decode _ _ _ _ _ _ _ _ _ _ _ _ _ _ _ (hpre c)
    obtain ⟨e0, e1, e2, e3, e4, e5, e6, _, e8, e9, e10, e11, e12, e13, e14⟩ := hag c
    funext y
    idx_vars y
    refine (Reference.result_at m' c (by rw [e8]; exact b8) (by rw [e9]; exact b9) (by rw [e10]; exact b10) y0 y1).trans ?_
    rw [e0, e1, e2, e3, e4, e5, e6, e8, e9, e10, e11, e12, e13, e14]
    rfl

theorem claim : Cert.Claim :=
  ⟨Cert.Kernel.Gen.facts, Cert.KernelIdeal.Gen.facts, Cert.ReferenceIdeal.Gen.facts, Cert.Pre_in_range.Gen.facts, frame_p, frame_pi,
    fun m g _ => frame_pi m g trivial, frame_ri, fun m g _ => frame_ri m g trivial, named, equal⟩

end Cert.Proof

end
